-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x4x4x256x512 : Shape := ⟨5, ![2, 4, 4, 256, 512]⟩
abbrev S7 : Shape := ⟨1, ![7]⟩
abbrev S2x4x4 : Shape := ⟨3, ![2, 4, 4]⟩
abbrev S2x4x3 : Shape := ⟨3, ![2, 4, 3]⟩
abbrev S_ : Shape := ⟨0, ![]⟩
abbrev S1 : Shape := ⟨1, ![1]⟩
abbrev S256x1024 : Shape := ⟨2, ![256, 1024]⟩
abbrev S1024x1024 : Shape := ⟨2, ![1024, 1024]⟩
abbrev S256x512 : Shape := ⟨2, ![256, 512]⟩
abbrev S1x1x1x256x512 : Shape := ⟨5, ![1, 1, 1, 256, 512]⟩
abbrev S1x1x1 : Shape := ⟨3, ![1, 1, 1]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .f32⟩
  | .local _ .vmem, ⟨1, _⟩ => ⟨S2x4x4x256x512, .bf16⟩
  | .local _ .vmem, ⟨2, _⟩ => ⟨S2x4x4x256x512, .bf16⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c1_i32_6 : BitVec 32 := 1#32
  let v10 : BitVec 32 := Scalar.subi v9 c1_i32_6
  let c4_i32_7 : BitVec 32 := 4#32
  let v11 : BitVec 32 := Scalar.remsi v10 c4_i32_7
  let c1_i32_11 : BitVec 32 := 1#32
  let v14 : BitVec 32 := Scalar.muli v11 c1_i32_11
  let v15 : BitVec 32 := Scalar.addi c0_i32 v14
  v15.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v12 : BitVec 32 := Scalar.addi v2 c1_i32_8
  let c4_i32_9 : BitVec 32 := 4#32
  let v13 : BitVec 32 := Scalar.remsi v12 c4_i32_9
  let c1_i32_13 : BitVec 32 := 1#32
  let v16 : BitVec 32 := Scalar.muli v13 c1_i32_13
  let v17 : BitVec 32 := Scalar.addi c0_i32_14 v16
  v17.toNat
def k0_off1 (d0 : Dev nD) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_16 : BitVec 32 := 1024#32
  let v20 : BitVec 32 := Scalar.muli v2 c1024_i32_16
  let v21 : BitVec 32 := Scalar.addi v20 c0_i32_17
  let c0_i32_19 : BitVec 32 := 0#32
  ![v21.toNat, 0]
def k0_off2 (d0 : Dev nD) (c3_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v50 : BitVec 32 := Scalar.addi v2 c3_i32_37
  let c4_i32_38 : BitVec 32 := 4#32
  let v51 : BitVec 32 := Scalar.remsi v50 c4_i32_38
  let c1024_i32_40 : BitVec 32 := 1024#32
  let v53 : BitVec 32 := Scalar.muli v51 c1024_i32_40
  let c0_i32_42 : BitVec 32 := 0#32
  ![v53.toNat, 0]
def k0_off3 (d0 : Dev nD) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_59 : BitVec 32 := 1024#32
  let v78 : BitVec 32 := Scalar.muli v2 c1024_i32_59
  let v79 : BitVec 32 := Scalar.addi v78 c0_i32_60
  let v80 : Index := Scalar.indexCast v79
  let c0 : Index := 0#32
  ![v80.toNat, 0]
def k0_off4 (d0 : Dev nD) (c0_i32_67 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_66 : BitVec 32 := 1024#32
  let v86 : BitVec 32 := Scalar.muli v2 c1024_i32_66
  let v87 : BitVec 32 := Scalar.addi v86 c0_i32_67
  let v88 : Index := Scalar.indexCast v87
  let c512 : Index := 512#32
  ![v88.toNat, 512]
def k0_dev3 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_85 : BitVec 32 := 1#32
  let v94 : BitVec 32 := Scalar.muli v7 c1_i32_85
  let v95 : BitVec 32 := Scalar.addi c0_i32_86 v94
  v95.toNat
def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_103 : BitVec 32 := 1#32
  let v104 : BitVec 32 := Scalar.muli v5 c1_i32_103
  let v105 : BitVec 32 := Scalar.addi c0_i32_104 v104
  v105.toNat
def k0_dev5 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_140 : BitVec 32 := 1#32
  let v134 : BitVec 32 := Scalar.muli v7 c1_i32_140
  let v135 : BitVec 32 := Scalar.addi c0_i32_141 v134
  v135.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_158 : BitVec 32 := 1#32
  let v144 : BitVec 32 := Scalar.muli v5 c1_i32_158
  let v145 : BitVec 32 := Scalar.addi c0_i32_159 v144
  v145.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_194 : BitVec 32 := 1#32
  let v174 : BitVec 32 := Scalar.muli v7 c1_i32_194
  let v175 : BitVec 32 := Scalar.addi c0_i32_195 v174
  v175.toNat
def k0_dev8 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_212 : BitVec 32 := 1#32
  let v184 : BitVec 32 := Scalar.muli v5 c1_i32_212
  let v185 : BitVec 32 := Scalar.addi c0_i32_213 v184
  v185.toNat
def k0_dev9 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_248 : BitVec 32 := 1#32
  let v214 : BitVec 32 := Scalar.muli v7 c1_i32_248
  let v215 : BitVec 32 := Scalar.addi c0_i32_249 v214
  v215.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_266 : BitVec 32 := 1#32
  let v224 : BitVec 32 := Scalar.muli v5 c1_i32_266
  let v225 : BitVec 32 := Scalar.addi c0_i32_267 v224
  v225.toNat
def k0_off5 (d0 : Dev nD) (c0_i32_306 : BitVec 32) (c0_i32_314 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_304 : BitVec 32 := 4#32
  let v259 : BitVec 32 := Scalar.addi v2 c4_i32_304
  let c1_i32_305 : BitVec 32 := 1#32
  let v260 : BitVec 32 := Scalar.subi v259 c1_i32_305
  let v261 : BitVec 32 := Scalar.subi v260 c0_i32_306
  let c4_i32_307 : BitVec 32 := 4#32
  let v262 : BitVec 32 := Scalar.remsi v261 c4_i32_307
  let c1024_i32_313 : BitVec 32 := 1024#32
  let v265 : BitVec 32 := Scalar.muli v262 c1024_i32_313
  let v266 : BitVec 32 := Scalar.addi v265 c0_i32_314
  let v267 : Index := Scalar.indexCast v266
  let c0_315 : Index := 0#32
  ![v267.toNat, 0]
def k0_dev11 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_333 : BitVec 32 := 1#32
  let v274 : BitVec 32 := Scalar.muli v7 c1_i32_333
  let v275 : BitVec 32 := Scalar.addi c0_i32_334 v274
  v275.toNat
def k0_off6 (d0 : Dev nD) (c0_i32_358 : BitVec 32) (c0_i32_366 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_357 : BitVec 32 := 1#32
  let v292 : BitVec 32 := Scalar.addi v2 c1_i32_357
  let v293 : BitVec 32 := Scalar.addi v292 c0_i32_358
  let c4_i32_359 : BitVec 32 := 4#32
  let v294 : BitVec 32 := Scalar.remsi v293 c4_i32_359
  let c1024_i32_365 : BitVec 32 := 1024#32
  let v297 : BitVec 32 := Scalar.muli v294 c1024_i32_365
  let v298 : BitVec 32 := Scalar.addi v297 c0_i32_366
  let v299 : Index := Scalar.indexCast v298
  let c512_367 : Index := 512#32
  ![v299.toNat, 512]
def k0_dev12 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_385 : BitVec 32 := 1#32
  let v306 : BitVec 32 := Scalar.muli v5 c1_i32_385
  let v307 : BitVec 32 := Scalar.addi c0_i32_386 v306
  v307.toNat
def k0_dev13 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_438 : BitVec 32 := 1#32
  let v339 : BitVec 32 := Scalar.muli v7 c1_i32_438
  let v340 : BitVec 32 := Scalar.addi c0_i32_439 v339
  v340.toNat
def k0_dev14 (d0 : Dev nD) : Nat :=
  let c0_i32_491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_490 : BitVec 32 := 1#32
  let v371 : BitVec 32 := Scalar.muli v5 c1_i32_490
  let v372 : BitVec 32 := Scalar.addi c0_i32_491 v371
  v372.toNat
def k0_dev15 (d0 : Dev nD) : Nat :=
  let c0_i32_544 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_543 : BitVec 32 := 1#32
  let v404 : BitVec 32 := Scalar.muli v7 c1_i32_543
  let v405 : BitVec 32 := Scalar.addi c0_i32_544 v404
  v405.toNat
def k0_dev16 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_595 : BitVec 32 := 1#32
  let v436 : BitVec 32 := Scalar.muli v5 c1_i32_595
  let v437 : BitVec 32 := Scalar.addi c0_i32_596 v436
  v437.toNat
def k0_dev17 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_648 : BitVec 32 := 1#32
  let v469 : BitVec 32 := Scalar.muli v7 c1_i32_648
  let v470 : BitVec 32 := Scalar.addi c0_i32_649 v469
  v470.toNat
def k0_dev18 (d0 : Dev nD) : Nat :=
  let c0_i32_701 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_700 : BitVec 32 := 1#32
  let v501 : BitVec 32 := Scalar.muli v5 c1_i32_700
  let v502 : BitVec 32 := Scalar.addi c0_i32_701 v501
  v502.toNat
def k0_dev19 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_753 : BitVec 32 := 1#32
  let v534 : BitVec 32 := Scalar.muli v7 c1_i32_753
  let v535 : BitVec 32 := Scalar.addi c0_i32_754 v534
  v535.toNat
def k0_dev20 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_805 : BitVec 32 := 1#32
  let v566 : BitVec 32 := Scalar.muli v5 c1_i32_805
  let v567 : BitVec 32 := Scalar.addi c0_i32_806 v566
  v567.toNat
def k0_dev21 (d0 : Dev nD) : Nat :=
  let c0_i32_859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_858 : BitVec 32 := 1#32
  let v599 : BitVec 32 := Scalar.muli v7 c1_i32_858
  let v600 : BitVec 32 := Scalar.addi c0_i32_859 v599
  v600.toNat
def k0_dev22 (d0 : Dev nD) : Nat :=
  let c0_i32_911 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_910 : BitVec 32 := 1#32
  let v631 : BitVec 32 := Scalar.muli v5 c1_i32_910
  let v632 : BitVec 32 := Scalar.addi c0_i32_911 v631
  v632.toNat
def k0_dev23 (d0 : Dev nD) : Nat :=
  let c0_i32_964 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_963 : BitVec 32 := 1#32
  let v664 : BitVec 32 := Scalar.muli v7 c1_i32_963
  let v665 : BitVec 32 := Scalar.addi c0_i32_964 v664
  v665.toNat
def k0_dev24 (d0 : Dev nD) : Nat :=
  let c0_i32_1016 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1015 : BitVec 32 := 1#32
  let v696 : BitVec 32 := Scalar.muli v5 c1_i32_1015
  let v697 : BitVec 32 := Scalar.addi c0_i32_1016 v696
  v697.toNat
def k0_dev25 (d0 : Dev nD) : Nat :=
  let c0_i32_1069 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1068 : BitVec 32 := 1#32
  let v729 : BitVec 32 := Scalar.muli v7 c1_i32_1068
  let v730 : BitVec 32 := Scalar.addi c0_i32_1069 v729
  v730.toNat
def k0_dev26 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1120 : BitVec 32 := 1#32
  let v761 : BitVec 32 := Scalar.muli v5 c1_i32_1120
  let v762 : BitVec 32 := Scalar.addi c0_i32_1121 v761
  v762.toNat
def k0_dev27 (d0 : Dev nD) : Nat :=
  let c0_i32_1184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1183 : BitVec 32 := 1#32
  let v809 : BitVec 32 := Scalar.muli v7 c1_i32_1183
  let v810 : BitVec 32 := Scalar.addi c0_i32_1184 v809
  v810.toNat
def k0_off7 (d0 : Dev nD) (c0_i32_1190 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_281 : BitVec 32 := 1#32
  let v246 : BitVec 32 := Scalar.addi v2 c1_i32_281
  let c4_i32_282 : BitVec 32 := 4#32
  let v247 : BitVec 32 := Scalar.remsi v246 c4_i32_282
  let c1024_i32_1189 : BitVec 32 := 1024#32
  let v819 : BitVec 32 := Scalar.muli v247 c1024_i32_1189
  let v820 : BitVec 32 := Scalar.addi v819 c0_i32_1190
  let c0_i32_1197 : BitVec 32 := 0#32
  ![v820.toNat, 0]
def k0_dev28 (d0 : Dev nD) : Nat :=
  let c0_i32_1258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1257 : BitVec 32 := 1#32
  let v863 : BitVec 32 := Scalar.muli v5 c1_i32_1257
  let v864 : BitVec 32 := Scalar.addi c0_i32_1258 v863
  v864.toNat
def k0_off8 (d0 : Dev nD) (c0_i32_1264 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_283 : BitVec 32 := 4#32
  let v248 : BitVec 32 := Scalar.addi v2 c4_i32_283
  let c1_i32_284 : BitVec 32 := 1#32
  let v249 : BitVec 32 := Scalar.subi v248 c1_i32_284
  let c4_i32_285 : BitVec 32 := 4#32
  let v250 : BitVec 32 := Scalar.remsi v249 c4_i32_285
  let c1024_i32_1263 : BitVec 32 := 1024#32
  let v873 : BitVec 32 := Scalar.muli v250 c1024_i32_1263
  let v874 : BitVec 32 := Scalar.addi v873 c0_i32_1264
  let c512_i32_1271 : BitVec 32 := 512#32
  ![v874.toNat, 512]
def k0_dev29 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1332 : BitVec 32 := 1#32
  let v918 : BitVec 32 := Scalar.muli v7 c1_i32_1332
  let v919 : BitVec 32 := Scalar.addi c0_i32_1333 v918
  v919.toNat
def k0_dev30 (d0 : Dev nD) : Nat :=
  let c0_i32_1407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1406 : BitVec 32 := 1#32
  let v972 : BitVec 32 := Scalar.muli v5 c1_i32_1406
  let v973 : BitVec 32 := Scalar.addi c0_i32_1407 v972
  v973.toNat
def k0_dev31 (d0 : Dev nD) : Nat :=
  let c0_i32_1482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1481 : BitVec 32 := 1#32
  let v1027 : BitVec 32 := Scalar.muli v7 c1_i32_1481
  let v1028 : BitVec 32 := Scalar.addi c0_i32_1482 v1027
  v1028.toNat
def k0_dev32 (d0 : Dev nD) : Nat :=
  let c0_i32_1556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1555 : BitVec 32 := 1#32
  let v1081 : BitVec 32 := Scalar.muli v5 c1_i32_1555
  let v1082 : BitVec 32 := Scalar.addi c0_i32_1556 v1081
  v1082.toNat
def k0_dev33 (d0 : Dev nD) : Nat :=
  let c0_i32_1631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1630 : BitVec 32 := 1#32
  let v1136 : BitVec 32 := Scalar.muli v7 c1_i32_1630
  let v1137 : BitVec 32 := Scalar.addi c0_i32_1631 v1136
  v1137.toNat
def k0_dev34 (d0 : Dev nD) : Nat :=
  let c0_i32_1705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1704 : BitVec 32 := 1#32
  let v1190 : BitVec 32 := Scalar.muli v5 c1_i32_1704
  let v1191 : BitVec 32 := Scalar.addi c0_i32_1705 v1190
  v1191.toNat
def k0_dev35 (d0 : Dev nD) : Nat :=
  let c0_i32_2160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2159 : BitVec 32 := 1#32
  let v1359 : BitVec 32 := Scalar.muli v7 c1_i32_2159
  let v1360 : BitVec 32 := Scalar.addi c0_i32_2160 v1359
  v1360.toNat
def k0_off9 (d0 : Dev nD) (c0_i32_2166 : BitVec 32) (c0_i32_2169 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2165 : BitVec 32 := 4#32
  let v1369 : BitVec 32 := Scalar.addi v2 c4_i32_2165
  let v1370 : BitVec 32 := Scalar.subi v1369 c0_i32_2166
  let c4_i32_2167 : BitVec 32 := 4#32
  let v1371 : BitVec 32 := Scalar.remsi v1370 c4_i32_2167
  let c1024_i32_2168 : BitVec 32 := 1024#32
  let v1372 : BitVec 32 := Scalar.muli v1371 c1024_i32_2168
  let v1373 : BitVec 32 := Scalar.addi v1372 c0_i32_2169
  let c0_i32_2176 : BitVec 32 := 0#32
  ![v1373.toNat, 0]
def k0_dev36 (d0 : Dev nD) : Nat :=
  let c0_i32_2210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2209 : BitVec 32 := 1#32
  let v1387 : BitVec 32 := Scalar.muli v5 c1_i32_2209
  let v1388 : BitVec 32 := Scalar.addi c0_i32_2210 v1387
  v1388.toNat
def k0_off10 (d0 : Dev nD) (c0_i32_2215 : BitVec 32) (c0_i32_2218 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1397 : BitVec 32 := Scalar.addi v2 c0_i32_2215
  let c4_i32_2216 : BitVec 32 := 4#32
  let v1398 : BitVec 32 := Scalar.remsi v1397 c4_i32_2216
  let c1024_i32_2217 : BitVec 32 := 1024#32
  let v1399 : BitVec 32 := Scalar.muli v1398 c1024_i32_2217
  let v1400 : BitVec 32 := Scalar.addi v1399 c0_i32_2218
  let c512_i32_2225 : BitVec 32 := 512#32
  ![v1400.toNat, 512]
def k0_dev37 (d0 : Dev nD) : Nat :=
  let c0_i32_2259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2258 : BitVec 32 := 1#32
  let v1414 : BitVec 32 := Scalar.muli v7 c1_i32_2258
  let v1415 : BitVec 32 := Scalar.addi c0_i32_2259 v1414
  v1415.toNat
def k0_dev38 (d0 : Dev nD) : Nat :=
  let c0_i32_2309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2308 : BitVec 32 := 1#32
  let v1442 : BitVec 32 := Scalar.muli v5 c1_i32_2308
  let v1443 : BitVec 32 := Scalar.addi c0_i32_2309 v1442
  v1443.toNat
def k0_dev39 (d0 : Dev nD) : Nat :=
  let c0_i32_2358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2357 : BitVec 32 := 1#32
  let v1469 : BitVec 32 := Scalar.muli v7 c1_i32_2357
  let v1470 : BitVec 32 := Scalar.addi c0_i32_2358 v1469
  v1470.toNat
def k0_dev40 (d0 : Dev nD) : Nat :=
  let c0_i32_2408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2407 : BitVec 32 := 1#32
  let v1497 : BitVec 32 := Scalar.muli v5 c1_i32_2407
  let v1498 : BitVec 32 := Scalar.addi c0_i32_2408 v1497
  v1498.toNat
def k0_dev41 (d0 : Dev nD) : Nat :=
  let c0_i32_2457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2456 : BitVec 32 := 1#32
  let v1524 : BitVec 32 := Scalar.muli v7 c1_i32_2456
  let v1525 : BitVec 32 := Scalar.addi c0_i32_2457 v1524
  v1525.toNat
def k0_dev42 (d0 : Dev nD) : Nat :=
  let c0_i32_2507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2506 : BitVec 32 := 1#32
  let v1552 : BitVec 32 := Scalar.muli v5 c1_i32_2506
  let v1553 : BitVec 32 := Scalar.addi c0_i32_2507 v1552
  v1553.toNat
def k0_dev43 (d0 : Dev nD) : Nat :=
  let c0_i32_2556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2555 : BitVec 32 := 1#32
  let v1579 : BitVec 32 := Scalar.muli v7 c1_i32_2555
  let v1580 : BitVec 32 := Scalar.addi c0_i32_2556 v1579
  v1580.toNat
def k0_dev44 (d0 : Dev nD) : Nat :=
  let c0_i32_2606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2605 : BitVec 32 := 1#32
  let v1607 : BitVec 32 := Scalar.muli v5 c1_i32_2605
  let v1608 : BitVec 32 := Scalar.addi c0_i32_2606 v1607
  v1608.toNat
def k0_dev45 (d0 : Dev nD) : Nat :=
  let c0_i32_2655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2654 : BitVec 32 := 1#32
  let v1634 : BitVec 32 := Scalar.muli v7 c1_i32_2654
  let v1635 : BitVec 32 := Scalar.addi c0_i32_2655 v1634
  v1635.toNat
def k0_dev46 (d0 : Dev nD) : Nat :=
  let c0_i32_2705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2704 : BitVec 32 := 1#32
  let v1662 : BitVec 32 := Scalar.muli v5 c1_i32_2704
  let v1663 : BitVec 32 := Scalar.addi c0_i32_2705 v1662
  v1663.toNat
def k0_dev47 (d0 : Dev nD) : Nat :=
  let c0_i32_2754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2753 : BitVec 32 := 1#32
  let v1689 : BitVec 32 := Scalar.muli v7 c1_i32_2753
  let v1690 : BitVec 32 := Scalar.addi c0_i32_2754 v1689
  v1690.toNat
def k0_dev48 (d0 : Dev nD) : Nat :=
  let c0_i32_2804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2803 : BitVec 32 := 1#32
  let v1717 : BitVec 32 := Scalar.muli v5 c1_i32_2803
  let v1718 : BitVec 32 := Scalar.addi c0_i32_2804 v1717
  v1718.toNat
def k0_dev49 (d0 : Dev nD) : Nat :=
  let c0_i32_2853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2852 : BitVec 32 := 1#32
  let v1744 : BitVec 32 := Scalar.muli v7 c1_i32_2852
  let v1745 : BitVec 32 := Scalar.addi c0_i32_2853 v1744
  v1745.toNat
def k0_dev50 (d0 : Dev nD) : Nat :=
  let c0_i32_2903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2902 : BitVec 32 := 1#32
  let v1772 : BitVec 32 := Scalar.muli v5 c1_i32_2902
  let v1773 : BitVec 32 := Scalar.addi c0_i32_2903 v1772
  v1773.toNat
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.KIProgram.lean ====
module
public import proofs.«01_k».proof.Proof.Gen.KernelIdeal
public import proofs.«01_k».proof.Proof.Gen.KernelIdeal.Points
public import Idealize.ShloMosaic.Lib.Pipeline.Regions
@[expose] public section
open Idealize.ShloMosaic Idealize.SL.Sem

/-! The kernel's body written as folds over the streams. A stream is a direction `d` (0 sends to the
next device, 1 to the previous one) and a group of rows `g`; each has four slots `s` in a buffer for the
reduction (`b = 0`) and four in one for the gathering (`b = 1`). -/

namespace Cert.KernelIdeal.Ring
variable {F : FTy → Type} [FloatOps F]
open Cert.KernelIdeal.Facts₀

/-- The program of one TensorCore. -/
abbrev P (F : FTy → Type) [FloatOps F] := Prog (TpuEff nD τ sig (Elt F) Λ₀ .tc) PUnit

/-- The argument in HBM. -/
abbrev xM : Memref sig .tc .hbm S4096x1024 .f32 := Memref.whole main_arg0
/-- The result in HBM. -/
abbrev yM : Memref sig .tc .hbm S4096x1024 .bf16 := Memref.whole main_v1
/-- The copy of the argument in VMEM. -/
abbrev tM : Memref sig .tc .vmem S4096x1024 .f32 := Memref.whole cc0_scratch0

/-- The buffer of slots of the reduction (`b = 0`) or of the gathering (`b = 1`). -/
def bRef (b : Fin 2) : Ref sig .tc := if b.val = 0 then cc0_scratch1 else cc0_scratch2

/-- That buffer whole. -/
def bM (b : Fin 2) : Memref sig .tc .vmem S2x4x4x256x512 .bf16 :=
  if b.val = 0 then Memref.whole cc0_scratch1 else Memref.whole cc0_scratch2

/-- It is a whole buffer. -/
theorem bM_whole (b : Fin 2) : (bM b).IsWhole := by
  unfold bM; split <;> exact Memref.isWhole_whole _

/-- Where slot `s` of stream `(d, g)` starts. -/
abbrev sOff (d : Fin 2) (g s : Fin 4) : Fin 5 → ℕ := ![d.val, g.val, s.val, 0, 0]

/-- A slot lies in its buffer. -/
theorem sOff_inb : ∀ (d : Fin 2) (g s : Fin 4) (a : Fin 5),
    sOff d g s a + S1x1x1x256x512.size a ≤ S2x4x4x256x512.size a := by decide

/-- The rectangle of slot `s` of stream `(d, g)`. -/
abbrev sRect (d : Fin 2) (g s : Fin 4) : Rect S2x4x4x256x512 :=
  Rect.unit (s := S2x4x4x256x512) (sOff d g s) S1x1x1x256x512.size (sOff_inb d g s)

/-- A slot is whole words. -/
theorem sWords : ∀ (d : Fin 2) (g s : Fin 4), (sRect d g s).WholeWords (EltTy.packing .bf16) := by decide
/-- A slot has packed rows. -/
theorem sPacked : ∀ (d : Fin 2) (g s : Fin 4), (sRect d g s).PackedRows (EltTy.packing .bf16) := by decide

/-- Slot `s` of stream `(d, g)`, as a matrix. -/
abbrev slot (b d : Fin 2) (g s : Fin 4) : Memref sig .tc .vmem S256x512 .bf16 :=
  ((bM b).slice (sRect d g s) (fun _ => rfl)).squeeze S256x512 squeezes_S1x1x1x256x512_S256x512

/-- A copy of a slot moves whole words. -/
theorem slot_words (b d : Fin 2) (g s : Fin 4) : (slot b d g s).view.WordExact :=
  ((bM_whole b).wordExact_slice rfl _ (sWords d g s)).reshape _ _

/-- The slot after slot `h`. -/
abbrev up (h : Fin 3) : Fin 4 := ⟨h.val + 1, by omega⟩
/-- Slot `h` itself. -/
abbrev lo (h : Fin 3) : Fin 4 := ⟨h.val, by omega⟩

/-- There are seven semaphores for the argument. -/
theorem inb7 : ∀ (k : Fin 7) (a : Fin 1), (![k.val] : Fin 1 → ℕ) a + S1.size a ≤ S7.size a := by decide
/-- There are three hops to a stream. -/
theorem inb3 : ∀ (d : Fin 2) (g : Fin 4) (h : Fin 3) (a : Fin 3),
    (![d.val, g.val, h.val] : Fin 3 → ℕ) a + S1x1x1.size a ≤ S2x4x3.size a := by decide
/-- There are four slots to a stream. -/
theorem inb4 : ∀ (d : Fin 2) (g h : Fin 4) (a : Fin 3),
    (![d.val, g.val, h.val] : Fin 3 → ℕ) a + S1x1x1.size a ≤ S2x4x4.size a := by decide

/-- The semaphore of the `k`-th copy of the argument. -/
abbrev inS (k : Fin 7) : DmaSems sig S_ :=
  (cc0_scratch3.slice (Rect.unit (s := S7) ![k.val] S1.size (inb7 k))).squeeze S_ squeezes_S1_S_
/-- The semaphore of the copy of a gathered slot into the result. -/
abbrev outS (d : Fin 2) (g s : Fin 4) : DmaSems sig S_ :=
  (cc0_scratch4.slice (Rect.unit (s := S2x4x4) ![d.val, g.val, s.val] S1x1x1.size (inb4 d g s))).squeeze S_ squeezes_S1x1x1_S_
/-- The semaphores of the hops' ends: on the sender. -/
abbrev sndA (b : Fin 2) : DmaSems sig S2x4x3 := if b.val = 0 then cc0_scratch5 else cc0_scratch7
/-- The semaphores of the hops' ends: on the receiver. -/
abbrev rcvA (b : Fin 2) : DmaSems sig S2x4x3 := if b.val = 0 then cc0_scratch6 else cc0_scratch8
/-- The semaphore of the sender's end of a hop. -/
abbrev sndS (b d : Fin 2) (g : Fin 4) (h : Fin 3) : DmaSems sig S_ :=
  ((sndA b).slice (Rect.unit (s := S2x4x3) ![d.val, g.val, h.val] S1x1x1.size (inb3 d g h))).squeeze S_ squeezes_S1x1x1_S_
/-- The semaphore of the receiver's end of a hop. -/
abbrev rcvS (b d : Fin 2) (g : Fin 4) (h : Fin 3) : DmaSems sig S_ :=
  ((rcvA b).slice (Rect.unit (s := S2x4x3) ![d.val, g.val, h.val] S1x1x1.size (inb3 d g h))).squeeze S_ squeezes_S1x1x1_S_
/-- The barrier's semaphore. -/
abbrev barS : Sems sig S_ := SemArray.scalar (sig.barrier 0 rfl)

/-- The rows of a copy of the argument: four of this device's own chunk, then the other three chunks. -/
def inOff (c : Dev nD) (k : Fin 7) : Fin 2 → ℕ :=
  if k.val < 4 then k0_off1 c (BitVec.ofNat 32 (256 * k.val))
  else k0_off2 c (BitVec.ofNat 32 (1 + (k.val - 4 + 2) % 3))

/-- Where the operand of step `s` of stream `(d, g)` lies in the argument. -/
def tOff (c : Dev nD) (d : Fin 2) (g s : Fin 4) : Fin 2 → ℕ :=
  if s.val = 0 then
    (if d.val = 0 then k0_off3 c (BitVec.ofNat 32 (256 * g.val)) else k0_off4 c (BitVec.ofNat 32 (256 * g.val)))
  else
    (if d.val = 0 then k0_off5 c (BitVec.ofNat 32 (s.val - 1)) (BitVec.ofNat 32 (256 * g.val))
     else k0_off6 c (BitVec.ofNat 32 (s.val - 1)) (BitVec.ofNat 32 (256 * g.val)))

/-- Where gathered slot `s` of stream `(d, g)` goes in the result. -/
def yOff (c : Dev nD) (d : Fin 2) (g s : Fin 4) : Fin 2 → ℕ :=
  if s.val = 0 then
    (if d.val = 0 then k0_off7 c (BitVec.ofNat 32 (256 * g.val)) else k0_off8 c (BitVec.ofNat 32 (256 * g.val)))
  else
    (if d.val = 0 then k0_off9 c (BitVec.ofNat 32 (s.val - 1)) (BitVec.ofNat 32 (256 * g.val))
     else k0_off10 c (BitVec.ofNat 32 (s.val - 1)) (BitVec.ofNat 32 (256 * g.val)))

/-- The chunk that stream direction `d` reduces at step `s`. -/
def tChunk (c : Dev nD) (d : Fin 2) (s : Fin 4) : ℕ := if d.val = 0 then (c.val + 4 - s.val) % 4 else (c.val + s.val) % 4
/-- The chunk that gathered slot `s` of direction `d` holds. -/
def yChunk (c : Dev nD) (d : Fin 2) (s : Fin 4) : ℕ := if d.val = 0 then (c.val + 5 - s.val) % 4 else (c.val + 3 + s.val) % 4

/-- Where a step's operand lies, in closed form. -/
theorem tOff_eq : ∀ (c : Dev nD) (d : Fin 2) (g s : Fin 4),
    tOff c d g s = ![1024 * tChunk c d s + 256 * g.val, 512 * d.val] := by decide +kernel
/-- Where a block of the result lies, in closed form. -/
theorem yOff_eq : ∀ (c : Dev nD) (d : Fin 2) (g s : Fin 4),
    yOff c d g s = ![1024 * yChunk c d s + 256 * g.val, 512 * d.val] := by decide +kernel

/-- A step's operand lies in the argument. -/
theorem tOff_inb (c : Dev nD) (d : Fin 2) (g s : Fin 4) (a : Fin 2) :
    tOff c d g s a + S256x512.size a ≤ S4096x1024.size a := by
  revert c d g s a; decide +kernel
/-- A block lies in the result. -/
theorem yOff_inb (c : Dev nD) (d : Fin 2) (g s : Fin 4) (a : Fin 2) :
    yOff c d g s a + S256x512.size a ≤ S4096x1024.size a := by
  revert c d g s a; decide +kernel

/-- The rectangle of the argument that step `s` of stream `(d, g)` reads. -/
abbrev tRect (c : Dev nD) (d : Fin 2) (g s : Fin 4) : Rect S4096x1024 :=
  Rect.unit (s := S4096x1024) (tOff c d g s) S256x512.size (tOff_inb c d g s)
/-- The rectangle of the result that gathered slot `s` of stream `(d, g)` fills. -/
abbrev yRect (c : Dev nD) (d : Fin 2) (g s : Fin 4) : Rect S4096x1024 :=
  Rect.unit (s := S4096x1024) (yOff c d g s) S256x512.size (yOff_inb c d g s)

/-- A block of the result is whole words. -/
theorem yWords (c : Dev nD) (d : Fin 2) (g s : Fin 4) : (yRect c d g s).WholeWords (EltTy.packing .bf16) := by
  revert c d g s; decide +kernel

/-- That block of the result. -/
abbrev yBlk (c : Dev nD) (d : Fin 2) (g s : Fin 4) : Memref sig .tc .hbm S256x512 .bf16 :=
  yM.slice (yRect c d g s) (fun _ => rfl)
/-- A copy into it moves whole words. -/
theorem yBlk_words (c : Dev nD) (d : Fin 2) (g s : Fin 4) : (yBlk c d g s).view.WordExact :=
  (Memref.isWhole_whole main_v1).wordExact_slice rfl _ (yWords c d g s)

/-- The block of rows that one copy of the argument moves has 256 rows or a whole chunk's. -/
theorem ownOff_inb (c : Dev nD) (k : Fin 4) (a : Fin 2) :
    k0_off1 c (BitVec.ofNat 32 (256 * k.val)) a + S256x1024.size a ≤ S4096x1024.size a := k0_off1_inb c k a
/-- The device's own rows, group `g`. -/
abbrev ownRect (c : Dev nD) (g : Fin 4) : Rect S4096x1024 :=
  Rect.unit (s := S4096x1024) (k0_off1 c (BitVec.ofNat 32 (256 * g.val))) S256x1024.size (k0_off1_inb c g)
/-- The chunk `r + 1` after its own. -/
abbrev chkRect (c : Dev nD) (r : Fin 3) : Rect S4096x1024 :=
  Rect.unit (s := S4096x1024) (k0_off2 c (BitVec.ofNat 32 (1 + r.val))) S1024x1024.size (k0_off2_inb c r)
/-- The semaphore of the copy of this device's own rows `g`. -/
abbrev ownIx (g : Fin 4) : Fin 7 := ⟨g.val, by omega⟩
/-- The semaphore of the copy of chunk `c + r + 1`. -/
abbrev chkIx (r : Fin 3) : Fin 7 := ⟨4 + (r.val + 1) % 3, by omega⟩

/-- The device a direction sends to. -/
def dstN (c : Dev nD) (d : Fin 2) : ℕ := if d.val = 0 then k0_dev3 c else k0_dev4 c
/-- The device sent to, in closed form. -/
theorem dstN_eq : ∀ (c : Dev nD) (d : Fin 2), dstN c d = (c.val + 1 + 2 * d.val) % 4 := by decide +kernel
/-- It is a device. -/
theorem dstN_lt (c : Dev nD) (d : Fin 2) : dstN c d < nD := by
  rw [dstN_eq]; exact Nat.mod_lt _ (by decide)
/-- The device that direction `d` sends to from `c`. -/
abbrev dst (c : Dev nD) (d : Fin 2) : Dev nD := ⟨dstN c d, dstN_lt c d⟩

/-! ## Steps -/

/-- Start the copy of this device's own rows `g`. -/
def ownGo (c : Dev nD) (g : Fin 4) (k : P F) : P F :=
  .op (.enqueueDma (xM.slice (ownRect c g) (fun _ => rfl)) (.here (tM.slice (ownRect c g) (fun _ => rfl))) (.dma (inS (ownIx g)).sem)
    (View.wordExact_bits rfl) (View.wordExact_bits rfl) ⟨Or.inl rfl, trivial⟩) fun _ => k
/-- Wait for it. -/
def ownWait (c : Dev nD) (g : Fin 4) (k : P F) : P F :=
  .op (.waitDma2 (inS (ownIx g)).sem (xM.slice (ownRect c g) (fun _ => rfl)) (tM.slice (ownRect c g) (fun _ => rfl))
    (View.wordExact_bits rfl) (View.wordExact_bits rfl)) fun _ => k
/-- Start the copy of chunk `c + r + 1`. -/
def chkGo (c : Dev nD) (r : Fin 3) (k : P F) : P F :=
  .op (.enqueueDma (xM.slice (chkRect c r) (fun _ => rfl)) (.here (tM.slice (chkRect c r) (fun _ => rfl))) (.dma (inS (chkIx r)).sem)
    (View.wordExact_bits rfl) (View.wordExact_bits rfl) ⟨Or.inl rfl, trivial⟩) fun _ => k
/-- Wait for it. -/
def chkWait (c : Dev nD) (r : Fin 3) (k : P F) : P F :=
  .op (.waitDma2 (inS (chkIx r)).sem (xM.slice (chkRect c r) (fun _ => rfl)) (tM.slice (chkRect c r) (fun _ => rfl))
    (View.wordExact_bits rfl) (View.wordExact_bits rfl)) fun _ => k

/-- Load a step's operand. -/
def tLoad (c : Dev nD) (d : Fin 2) (g s : Fin 4) (k : Vec F S256x512 .f32 → P F) : P F :=
  .op (.load tM (tRect c d g s).toLoadRect (View.loadsAt_vmem h_S256x512)) k
/-- Load a slot. -/
def sLoad (b d : Fin 2) (g s : Fin 4) (k : Vec F S1x1x1x256x512 .bf16 → P F) : P F :=
  .op (.load (bM b) (sRect d g s).toLoadRect (View.loadsAt_vmem h_S1x1x1x256x512)) k
/-- Store a slot. -/
def sStore (b d : Fin 2) (g s : Fin 4) (v : FVec F S1x1x1x256x512 .bf16) (k : P F) : P F :=
  .op (.store (bM b) (sRect d g s) v Finset.univ (View.stores_vmem h_S1x1x1x256x512
    ((bM_whole b).storeExact_slice rfl _ (sPacked d g s)) (fun _ => rfl)) (.inl rfl)) fun _ => k

/-- Send slot `h` to slot `h + 1` of the stream's next device. -/
def hop (c : Dev nD) (b d : Fin 2) (g : Fin 4) (h : Fin 3) (k : P F) : P F :=
  .op (.enqueueDma (slot b d g (lo h)) (.remote (Dev.tc (dst c d : Dev nD)) (slot b d g (up h)) (.dma (sndS b d g h).sem))
    (.dma (rcvS b d g h).sem) (slot_words b d g (lo h)) (slot_words b d g (up h)) ⟨⟨rfl, Or.inl rfl⟩, trivial⟩) fun _ => k
/-- Wait for slot `h + 1` to arrive. -/
def rcvWait (b d : Fin 2) (g : Fin 4) (h : Fin 3) (k : P F) : P F :=
  .op (.waitDma2 (rcvS b d g h).sem (slot b d g (lo h)) (slot b d g (up h)) (slot_words b d g (lo h)) (slot_words b d g (up h))) fun _ => k
/-- Wait for slot `h` to have left. -/
def sndWait (b d : Fin 2) (g : Fin 4) (h : Fin 3) (k : P F) : P F :=
  .op (.waitDma2 (sndS b d g h).sem (slot b d g (up h)) (slot b d g (lo h)) (slot_words b d g (up h)) (slot_words b d g (lo h))) fun _ => k
/-- Start the copy of gathered slot `s` into the result. -/
def emit (c : Dev nD) (d : Fin 2) (g s : Fin 4) (k : P F) : P F :=
  .op (.enqueueDma (slot 1 d g s) (.here (yBlk c d g s)) (.dma (outS d g s).sem) (slot_words 1 d g s) (yBlk_words c d g s)
    ⟨Or.inl rfl, trivial⟩) fun _ => k
/-- Wait for it. -/
def outWait (c : Dev nD) (d : Fin 2) (g s : Fin 4) (k : P F) : P F :=
  .op (.waitDma2 (outS d g s).sem (slot 1 d g s) (yBlk c d g s) (slot_words 1 d g s) (yBlk_words c d g s)) fun _ => k

/-! ## Values -/

/-- A block rounded to bf16, as a slot. -/
def pRound (v : Vec F S256x512 .f32) : FVec F S1x1x1x256x512 .bf16 :=
  shapeCast S1x1x1x256x512 (truncf .bf16 v bitsLt_bf16_f32 : FVec F S256x512 .bf16) shapeCasts_S256x512_S1x1x1x256x512
/-- A slot plus a rounded block. -/
def pAdd (u : Vec F S1x1x1x256x512 .bf16) (v : Vec F S256x512 .f32) : FVec F S1x1x1x256x512 .bf16 :=
  shapeCast S1x1x1x256x512 (addf (shapeCast S256x512 u shapeCasts_S1x1x1x256x512_S256x512 : FVec F S256x512 .bf16)
    (truncf .bf16 v bitsLt_bf16_f32 : FVec F S256x512 .bf16)) shapeCasts_S256x512_S1x1x1x256x512
/-- The kernel's function at a block of sums. -/
def fBlk (x : FVec F S256x512 .f32) : FVec F S256x512 .bf16 :=
  let r : FVec F S256x512 .f32 := maximumf x (broadcast S256x512 (Scalar.ofBits .f32 0x00000000#32))
  truncf .bf16 (addf (mulf (mulf (tanh x) x) x) (mulf (mulf r r) r)) bitsLt_bf16_f32
/-- The kernel's function at a slot of sums, as a slot. -/
def pFin (u : Vec F S1x1x1x256x512 .bf16) : FVec F S1x1x1x256x512 .bf16 :=
  shapeCast S1x1x1x256x512 (fBlk (extf .f32 (shapeCast S256x512 u shapeCasts_S1x1x1x256x512_S256x512 : FVec F S256x512 .bf16) bitsLt_bf16_f32))
    shapeCasts_S256x512_S1x1x1x256x512

/-! ## Compound steps and phases -/

/-- Slot 0 of the reduction becomes this device's own block, rounded. -/
def init (c : Dev nD) (d : Fin 2) (g : Fin 4) (k : P F) : P F :=
  tLoad c d g 0 fun v => sLoad 0 d g 0 fun _ => sStore 0 d g 0 (pRound v) k
/-- An arrived slot gains this device's block. -/
def addStep (c : Dev nD) (d : Fin 2) (g : Fin 4) (h : Fin 3) (k : P F) : P F :=
  rcvWait 0 d g h (sLoad 0 d g (up h) fun u => tLoad c d g (up h) fun v => sLoad 0 d g (up h) fun _ =>
    sStore 0 d g (up h) (pAdd u v) k)
/-- The finished sums go through the function into slot 0 of the gathering. -/
def finStep (d : Fin 2) (g : Fin 4) (k : P F) : P F :=
  sLoad 0 d g 3 fun u => sLoad 1 d g 0 fun _ => sStore 1 d g 0 (pFin u) k
/-- One stage of the reduction in one stream. -/
def rsStep (c : Dev nD) (h : Fin 3) (gd : Fin 4 × Fin 2) (k : P F) : P F :=
  addStep c gd.2 gd.1 h (if hh : h.val < 2 then hop c 0 gd.2 gd.1 ⟨h.val + 1, by omega⟩ k
    else finStep gd.2 gd.1 (hop c 1 gd.2 gd.1 0 (emit c gd.2 gd.1 0 k)))
/-- One stage of the gathering in one stream. -/
def agStep (c : Dev nD) (h : Fin 3) (gd : Fin 4 × Fin 2) (k : P F) : P F :=
  rcvWait 1 gd.2 gd.1 h (if hh : h.val < 2 then hop c 1 gd.2 gd.1 ⟨h.val + 1, by omega⟩ (emit c gd.2 gd.1 (up h) k)
    else emit c gd.2 gd.1 (up h) k)

/-- The streams in the order the kernel walks them. -/
abbrev gds : List (Fin 4 × Fin 2) := [(0,0),(0,1),(1,0),(1,1),(2,0),(2,1),(3,0),(3,1)]
/-- The order in which the kernel waits for a phase's sends. -/
abbrev hs3 : List (Fin 3) := [0, 1, 2]

/-- A step for every member of a list. -/
def each {α : Type} (l : List α) (f : α → P F → P F) (k : P F) : P F := l.foldr f k

/-- Rows `g` of the own chunk arrive, and both directions start on them. -/
def first (c : Dev nD) (g : Fin 4) (k : P F) : P F :=
  ownWait c g (init c 0 g (init c 1 g (if g.val = 0 then
    .op (.semWait barS.sem ((2 : ℕ) : ℤ)) fun _ => hop c 0 0 g 0 (hop c 0 1 g 0 k) else hop c 0 0 g 0 (hop c 0 1 g 0 k))))

/-- The body after the device's number is known. -/
def bodyC (c : Dev nD) : P F :=
  .op (.semSignal (Dev.tc (⟨k0_dev1 c, k0_dev1_lt c⟩ : Dev nD)) barS.sem ((1 : ℕ) : ℤ)) fun _ =>
  .op (.semSignal (Dev.tc (⟨k0_dev2 c, k0_dev2_lt c⟩ : Dev nD)) barS.sem ((1 : ℕ) : ℤ)) fun _ =>
  each [0, 1, 2, 3] (ownGo c) <| each [2, 0, 1] (chkGo c) <|
  each [0, 1, 2, 3] (first c) <| each [2, 0, 1] (chkWait c) <|
  each hs3 (fun h => each gds (rsStep c h)) <|
  each hs3 (fun h => each gds fun gd => sndWait 0 gd.2 gd.1 h) <|
  each hs3 (fun h => each gds (agStep c h)) <|
  each hs3 (fun h => each gds fun gd => sndWait 1 gd.2 gd.1 h) <|
  each [0, 1, 2, 3] (fun s => each gds fun gd => outWait c gd.2 gd.1 s) (.ret ⟨⟩)

/-- The body. -/
def body : P F := .op .deviceId bodyC

/-- The printed body is `body`. -/
theorem body_eq (t : Fin cfg0.N) : Cert.KernelIdeal.Gen.bodyAt0 (F := F) t = body := by
  chain_rfl

end Cert.KernelIdeal.Ring
-- ==== Proof.KICells.lean ====
module
public import proofs.«01_k».proof.Proof.KIProgram
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.MemrefSat
public import Idealize.ShloMosaic.Lib.Tactic
@[expose] public section

noncomputable section

/-! The protocol between the devices. Every semaphore cell has one round. The barrier's cell of a device has
two duties, one for each direction: the device that this one sends to in direction `d` pays duty `d` and hands
over its landing slots of that direction. Every other cell has one duty, paid by a copy. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

/-- The ghost state of the rounds: two duties at most on a cell. -/
abbrev UB : Type := URounds (GSem nD τ sig) (Fin 2)
/-- The library's pipeline state and ours. -/
abbrev UU : Type := UR sig nD τ × UB

local notation "𝕄" => MT nD τ sig Unit (Elt F) ℕ UU ℕ

/-- Where the library's pipeline state lies in the ghost state. -/
abbrev EP : Emb (UR sig nD τ) (MT nD τ sig Unit (Elt F) ℕ UU ℕ) := embL
/-- Where the state of the rounds lies in it. -/
abbrev ER : Emb UB (MT nD τ sig Unit (Elt F) ℕ UU ℕ) := embR

/-! ## Cells -/

/-- A stream: its group of rows and its direction. -/
abbrev GD := Fin 4 × Fin 2
/-- A stage: reduction or gathering, and the hop's number. -/
abbrev St := Fin 2 × Fin 3
/-- A hop: its stage and its stream. -/
abbrev Hx := St × GD
/-- The DMA cells of a device: copies in, copies out, hops' sending ends, hops' receiving ends. -/
abbrev Dx := Fin 7 ⊕ ((Fin 4 × GD) ⊕ (Hx ⊕ Hx))
/-- All cells of a device: the barrier's and the DMA cells. -/
abbrev Cx := Option Dx

instance : DecidableEq Hx := inferInstanceAs (DecidableEq ((Fin 2 × Fin 3) × (Fin 4 × Fin 2)))
instance : DecidableEq (Hx ⊕ Hx) := inferInstance
instance : DecidableEq Dx := inferInstance
instance : DecidableEq (Dev nD × Cx) := inferInstance

/-- The cell of a copy of the argument. -/
abbrev cIn (k : Fin 7) : Dx := .inl k
/-- The cell of a copy into the result. -/
abbrev cOut (x : Fin 4 × GD) : Dx := .inr (.inl x)
/-- The cell of a hop's sending end. -/
abbrev cSnd (x : Hx) : Dx := .inr (.inr (.inl x))
/-- The cell of a hop's receiving end. -/
abbrev cRcv (x : Hx) : Dx := .inr (.inr (.inr x))

/-- The semaphore of a DMA cell. -/
def dsm : Dx → SemLoc sig
  | .inl k => .dma (inS k).sem
  | .inr (.inl x) => .dma (outS x.2.2 x.2.1 x.1).sem
  | .inr (.inr (.inl x)) => .dma (sndS x.1.1 x.2.2 x.2.1 x.1.2).sem
  | .inr (.inr (.inr x)) => .dma (rcvS x.1.1 x.2.2 x.2.1 x.1.2).sem

/-- The semaphore of a cell. -/
def csm : Cx → SemLoc sig
  | none => .reg barS.sem
  | some x => dsm x

/-- Different DMA cells are different semaphores. -/
theorem dsm_inj : Function.Injective dsm := by
  have h : ∀ x y : Dx, dsm x = dsm y → x = y := by decide +kernel
  exact fun x y => h x y

/-- Different cells are different semaphores. -/
theorem csm_inj : Function.Injective csm := by
  have hn : ∀ x : Dx, dsm x ≠ .reg barS.sem := by
    intro x h; rcases x with x | x | x | x <;> cases h
  intro x y h
  cases x <;> cases y
  · rfl
  · exact absurd h.symm (hn _)
  · exact absurd h (hn _)
  · exact congrArg some (dsm_inj h)

/-- Cell `x` of device `c`. -/
abbrev kc (c : Dev nD) (x : Cx) : GSem nD τ sig := ((c : Thread nD τ), csm x)

/-- Which of a device's cells a semaphore is. -/
def dec (s : SemLoc sig) : Option Cx := if h : ∃ x, csm x = s then some h.choose else none

/-- A cell's semaphore is that cell's. -/
theorem dec_csm (x : Cx) : dec (csm x) = some x := by
  have h : ∃ y, csm y = csm x := ⟨x, rfl⟩
  unfold dec; rw [dif_pos h]; exact congrArg some (csm_inj h.choose_spec)

/-! ## The ring -/

/-- The device that sends to `c` in direction `d`. -/
def src (c : Dev nD) (d : Fin 2) : Dev nD := ⟨(c.val + 3 + 2 * d.val) % 4, Nat.mod_lt _ (by decide)⟩

/-- The device that sends to the one sent to is this one. -/
theorem src_dst (c : Dev nD) (d : Fin 2) : src (dst c d) d = c := by
  apply Fin.ext; show (dstN c d + 3 + 2 * d.val) % 4 = c.val; rw [dstN_eq]; have : c.val < 4 := c.isLt; omega
/-- The device that the sender sends to is this one. -/
theorem dst_src (c : Dev nD) (d : Fin 2) : dst (src c d) d = c := by
  apply Fin.ext; show dstN (src c d) d = c.val; rw [dstN_eq]; have : c.val < 4 := c.isLt
  show ((c.val + 3 + 2 * d.val) % 4 + 1 + 2 * d.val) % 4 = c.val; omega

/-- The first device signalled is the one that sends in direction 0. -/
theorem dev1_eq (c : Dev nD) : (⟨k0_dev1 c, k0_dev1_lt c⟩ : Dev nD) = src c 0 := Fin.ext (Cert.KernelIdeal.Gen.k0_dev1_eq c)
/-- The second one is the one that sends in direction 1. -/
theorem dev2_eq (c : Dev nD) : (⟨k0_dev2 c, k0_dev2_lt c⟩ : Dev nD) = src c 1 := by
  refine Fin.ext ((Cert.KernelIdeal.Gen.k0_dev2_eq c).trans ?_)
  show (c.val + 1) % 4 = (c.val + 3 + 2 * 1) % 4; omega

/-! ## Contents -/

variable (m : (ℓ : Loc nD τ sig) → Buf (Elt F) ℓ)

/-- Device `c`'s argument. -/
def X (c : Dev nD) : S4096x1024.Idx → Elt F .f32 := m ((c : Thread nD τ).loc main_arg0)

/-- The operand of step `s` of stream `(d, g)` on device `c`. -/
def xblk (c : Dev nD) (d : Fin 2) (g s : Fin 4) : Vec F S256x512 .f32 :=
  (tM : Memref sig .tc .vmem S4096x1024 .f32).view.readAt (Elt F) (tRect c d g s).toLoadRect (X m c)

/-- It, rounded. -/
def tblk (c : Dev nD) (d : Fin 2) (g s : Fin 4) : FVec F S256x512 .bf16 := truncf .bf16 (xblk m c d g s) bitsLt_bf16_f32

/-- The sums in slot `n` of the reduction, on device `c`. -/
def rsN (d : Fin 2) (g : Fin 4) : ℕ → Dev nD → FVec F S256x512 .bf16
  | 0, c => tblk m c d g 0
  | n + 1, c => addf (rsN d g n (src c d)) (tblk m c d g (Fin.ofNat 4 (n + 1)))

/-- The results in slot `n` of the gathering, on device `c`. -/
def agN (d : Fin 2) (g : Fin 4) : ℕ → Dev nD → FVec F S256x512 .bf16
  | 0, c => fBlk (extf .f32 (rsN m d g 3 c) bitsLt_bf16_f32)
  | n + 1, c => agN d g n (src c d)

/-- What slot `s` of stream `(d, g)` holds on device `c` once it is final. -/
def val (b d : Fin 2) (g s : Fin 4) (c : Dev nD) : S256x512.Idx → Elt F .bf16 :=
  if b.val = 0 then rsN m d g s.val c else agN m d g s.val c

/-- The sharing of a slot that a hop sends: all of it, or half where the slot is also copied into the result. -/
def sh (b : Fin 2) : PosShare TreeShare := if b.val = 0 then fullShare else fullShare.left

/-- The rows that a copy of the argument moves. -/
def inRect (c : Dev nD) (k : Fin 7) : Rect S4096x1024 :=
  if h : k.val < 4 then ownRect c ⟨k.val, h⟩ else chkRect c ⟨(k.val - 4 + 2) % 3, Nat.mod_lt _ (by decide)⟩

/-- The first four copies move the own rows. -/
theorem inRect_own (c : Dev nD) (g : Fin 4) : inRect c (ownIx g) = ownRect c g := by
  unfold inRect; rw [dif_pos g.isLt]
/-- The other three move the other chunks. -/
theorem inRect_chk (c : Dev nD) (r : Fin 3) : inRect c (chkIx r) = chkRect c r := by
  unfold inRect; rw [dif_neg (show ¬ 4 + (r.val + 1) % 3 < 4 by omega)]
  congr 1; apply Fin.ext; show (4 + (r.val + 1) % 3 - 4 + 2) % 3 = r.val; omega

/-! ## Assertions -/

/-- The copy's rows of the argument at its contents. -/
def xPart (c : Dev nD) (k : Fin 7) : sProp 𝕄 :=
  ((c : Thread nD τ).loc main_arg0) ↦[(inRect c k).set]{fullShare} (m ((c : Thread nD τ).loc main_arg0))
/-- The copy's rows of the copy in VMEM at the argument's contents. -/
def tPart (c : Dev nD) (k : Fin 7) : sProp 𝕄 :=
  ((c : Thread nD τ).loc cc0_scratch0) ↦[(inRect c k).set]{fullShare} (X m c)

/-- A slot owned at a matrix. -/
abbrev slotAt (c : Dev nD) (b d : Fin 2) (g s : Fin 4) (q : PosShare TreeShare) (v : S256x512.Idx → Elt F .bf16) : sProp 𝕄 :=
  owns (c : Thread nD τ) (slot b d g s) q v
/-- A slot owned at something. -/
abbrev slotAny (c : Dev nD) (b d : Fin 2) (g s : Fin 4) : sProp 𝕄 := iprop(∃ v, slotAt c b d g s fullShare v)
/-- A block of the result owned at a matrix. -/
abbrev yAt (c : Dev nD) (d : Fin 2) (g s : Fin 4) (v : S256x512.Idx → Elt F .bf16) : sProp 𝕄 :=
  owns (c : Thread nD τ) (yBlk c d g s) fullShare v

/-- The slots in which direction `d` lands on device `c`. -/
def land (c : Dev nD) (d : Fin 2) : sProp 𝕄 :=
  bigSep (Finset.univ : Finset (St × Fin 4)) fun x => slotAny c x.1.1 d x.2 (up x.1.2)

/-- What the copy onto a DMA cell hands over. -/
def pay (c : Dev nD) : Dx → sProp 𝕄
  | .inl k => iprop(tPart m c k ∗ xPart m c k)
  | .inr (.inl x) => iprop(yAt c x.2.2 x.2.1 x.1 (val m 1 x.2.2 x.2.1 x.1 c) ∗ slotAt c 1 x.2.2 x.2.1 x.1 fullShare.right (val m 1 x.2.2 x.2.1 x.1 c))
  | .inr (.inr (.inl x)) => slotAt c x.1.1 x.2.2 x.2.1 (lo x.1.2) (sh x.1.1) (val m x.1.1 x.2.2 x.2.1 (lo x.1.2) c)
  | .inr (.inr (.inr x)) => slotAt c x.1.1 x.2.2 x.2.1 (up x.1.2) fullShare (val m x.1.1 x.2.2 x.2.1 (lo x.1.2) (src c x.2.2))

/-- The credit of a copy onto a DMA cell. -/
def amt : Dx → ℕ
  | .inl k => if k.val < 4 then (tM.slice (ownRect 0 0) (fun _ => rfl)).view.dmaCredit else (tM.slice (chkRect 0 0) (fun _ => rfl)).view.dmaCredit
  | .inr (.inl _) => (yBlk 0 0 0 0).view.dmaCredit
  | .inr (.inr (.inl x)) => (slot x.1.1 0 0 0).view.dmaCredit
  | .inr (.inr (.inr x)) => (slot x.1.1 0 0 0).view.dmaCredit

/-- Every copy gives some credit. -/
theorem amt_pos (x : Dx) : 0 < amt x := by
  rcases x with k | x | x | x
  · unfold amt; dsimp only; split <;> exact View.dmaCredit_pos _ (by decide)
  all_goals exact View.dmaCredit_pos _ (by decide)

instance pay_storable (c : Dev nD) (x : Dx) : BI.Storable (upEmb : UEmb _ 𝕄) (pay m c x) := by
  rcases x with k | x | x | x
  all_goals
    unfold pay
    first
    | (unfold tPart xPart; infer_instance)
    | infer_instance
instance land_storable (c : Dev nD) (d : Fin 2) : BI.Storable (upEmb : UEmb _ 𝕄) (land (F := F) c d) := by
  unfold land; infer_instance

/-- The schedule. -/
def Rd : Rounds.Schedule (GSem nD τ sig) (Fin 2) 𝕄 where
  duties g r := if r = 0 ∧ g.1.2 = .tc then (match dec g.2 with | some none => Finset.univ | some (some _) => {0} | none => ∅) else ∅
  unitless _ := False
  amount g _ _ := match dec g.2 with | some (some x) => amt x | _ => 1
  payload g _ d := match dec g.2 with | some (some x) => pay m g.1.1 x | some none => land (dst g.1.1 d) d | none => iprop(emp)
  amount_pos g _ _ _ := by
    cases dec g.2 with
    | none => exact Nat.one_pos
    | some x => cases x with
      | none => exact Nat.one_pos
      | some x => exact amt_pos x

instance Rd_storable (g : GSem nD τ sig) (r : ℕ) (d : Fin 2) : BI.Storable (upEmb : UEmb _ 𝕄) ((Rd m).payload g r d) := by
  dsimp only [Rd]
  cases dec g.2 with
  | none => infer_instance
  | some x => cases x with
    | none => infer_instance
    | some x => infer_instance

section Sched
variable (c : Dev nD) (x : Dx)

/-- The barrier's cell has both duties. -/
theorem duties_bar : (Rd m).duties (kc c none) 0 = Finset.univ := by
  dsimp only [Rd]; rw [if_pos ⟨rfl, rfl⟩, dec_csm]
/-- A DMA cell has one duty. -/
theorem duties_dma : (Rd m).duties (kc c (some x)) 0 = {0} := by
  dsimp only [Rd]; rw [if_pos ⟨rfl, rfl⟩, dec_csm]
/-- No cell has a second round. -/
theorem duties_later (g : GSem nD τ sig) : ∀ r, 1 ≤ r → (Rd m).duties g r = ∅ :=
  fun r hr => by dsimp only [Rd]; rw [if_neg fun h => by omega]
/-- Each duty of the barrier's cell is one signal. -/
theorem amount_bar (d : Fin 2) : (Rd m).amount (kc c none) 0 d = 1 := by dsimp only [Rd]; rw [dec_csm]
/-- A DMA cell's duty is its copy's credit. -/
theorem amount_dma (d : Fin 2) : (Rd m).amount (kc c (some x)) 0 d = amt x := by dsimp only [Rd]; rw [dec_csm]
/-- A duty of the barrier's cell hands over the next device's landing slots of its direction. -/
theorem payload_bar (d : Fin 2) : (Rd m).payload (kc c none) 0 d = land (dst c d) d := by dsimp only [Rd]; rw [dec_csm]
/-- A duty of a DMA cell hands over what its copy does. -/
theorem payload_dma (d : Fin 2) : (Rd m).payload (kc c (some x)) 0 d = pay m c x := by dsimp only [Rd]; rw [dec_csm]
/-- The barrier waits for two. -/
theorem expect_bar : (Rd m).expect (kc c none) 0 = 2 := by
  unfold Schedule.expect Schedule.amountOf
  rw [duties_bar, Finset.sum_congr rfl fun d _ => amount_bar m c d, Finset.sum_const, Finset.card_univ, Fintype.card_fin, smul_eq_mul]
/-- A DMA cell waits for its copy's credit. -/
theorem expect_dma : (Rd m).expect (kc c (some x)) 0 = amt x := by
  unfold Schedule.expect Schedule.amountOf; rw [duties_dma, Finset.sum_singleton, amount_dma]
/-- The barrier's wait gives the landing slots of both directions. -/
theorem rest_bar : bigSep ((Rd m).duties (kc c none) 0 \ ∅) (fun d => (Rd m).payload (kc c none) 0 d)
    = iprop(land (dst c 0) 0 ∗ land (dst c 1) 1) := by
  rw [Finset.sdiff_empty, duties_bar, bigSep_univ_eq_bigSepL [0, 1] (by decide) (by decide), bigSepL_cons_cons, bigSepL_singleton,
    payload_bar, payload_bar]
  rfl
/-- A DMA cell's wait gives what its copy hands over. -/
theorem rest_dma : bigSep ((Rd m).duties (kc c (some x)) 0 \ ∅) (fun d => (Rd m).payload (kc c (some x)) 0 d) = pay m c x := by
  rw [Finset.sdiff_empty, duties_dma, bigSep_singleton, payload_dma]
end Sched

/-! ## What is owed, and the levels -/

/-- What a hop from `c` owes: the credit at its receiving end. -/
def tal (c : Dev nD) (x : Hx) : CellTallies nD τ sig Unit := tallyAt (kc (dst c x.2.2) (some (cRcv x))) () (amt (cRcv x))
/-- What hops still to be made owe. -/
def owe (c : Dev nD) : List Hx → CellTallies nD τ sig Unit
  | [] => 0
  | x :: l => owe c l + tal c x

/-- The levels: hops' receiving ends in the order of the stages, above the barrier, above all else. -/
def lvx : Cx → ℕ
  | none => 1
  | some (.inr (.inr (.inr x))) => 2 + (3 * x.1.1.val + x.1.2.val)
  | _ => 0
/-- The level of a semaphore. -/
def lv (g : GSem nD τ sig) (_ : Unit) : ℕ := match dec g.2 with | some x => lvx x | none => 0
/-- The levels are given on the TensorCores alone. -/
def L (g : GSem nD τ sig) : Finset Unit := if g.1.2 = .tc then {()} else ∅

/-- Elsewhere there are none. -/
theorem L_of_ne (g : GSem nD τ sig) (h : g.1.2 ≠ .tc) : L g = ∅ := if_neg h
/-- There, there is one. -/
theorem L_tc (c : Dev nD) (s : SemLoc sig) : L ((c : Thread nD τ), s) = {()} := if_pos rfl
/-- A cell's level. -/
theorem lv_kc (c : Dev nD) (x : Cx) : lv (kc c x) () = lvx x := by unfold lv; rw [dec_csm]

/-- Something owed is owed at the receiving end of one of the hops. -/
theorem owe_pos {c : Dev nD} {l : List Hx} {g : GSem nD τ sig} {u : Unit} (h : 0 < owe c l g u) :
    ∃ x ∈ l, g = kc (dst c x.2.2) (some (cRcv x)) := by
  induction l with
  | nil => exact absurd h (Nat.lt_irrefl 0)
  | cons x l ih =>
    unfold owe tal at h
    rw [Pi.add_apply, Finsupp.add_apply, tallyAt_apply] at h
    by_cases hx : g = kc (dst c x.2.2) (some (cRcv x))
    · exact ⟨x, List.mem_cons_self, hx⟩
    · rw [if_neg (fun h' => hx h'.1)] at h
      obtain ⟨y, hy, e⟩ := ih (by omega)
      exact ⟨y, List.mem_cons_of_mem _ hy, e⟩

/-- A device may wait on a cell that lies below every hop it still owes. -/
theorem mayWait (c : Dev nD) (x : Cx) (l : List Hx) (hl : ∀ y ∈ l, lvx x < lvx (some (cRcv y))) :
    (levAts L lv : sProp 𝕄) ⊢ MayWait (c : Thread nD τ) (csm x) () (owe c l) :=
  MayOwe.of_cut (L := L) (lev := lv) (lvx x) (fun p hp => by rw [Finset.mem_singleton.mp hp, L_tc]; exact Finset.mem_singleton_self _)
    (fun g u hg => by obtain ⟨y, -, rfl⟩ := owe_pos hg; exact Finset.mem_singleton_self _)
    (fun p hp => by rw [Finset.mem_singleton.mp hp]; exact (lv_kc c x).le)
    (fun g u hg => by obtain ⟨y, hy, rfl⟩ := owe_pos hg; rw [lv_kc]; exact hl y hy)

/-- The stages in order. -/
abbrev sts : List St := [(0, 0), (0, 1), (0, 2), (1, 0), (1, 1), (1, 2)]
/-- The hops of one stage. -/
abbrev stHops (s : St) : List Hx := gds.map fun gd => (s, gd)
/-- All hops in the order they are made. -/
def allHops : List Hx := sts.flatMap stHops

/-- What a device owes after its first signal, and at launch. -/
def O₁ (c : Dev nD) : CellTallies nD τ sig Unit := owe c allHops + tallyAt (kc (src c 1) none) () 1
/-- What a device owes at launch. -/
def O₀ (c : Dev nD) : CellTallies nD τ sig Unit := O₁ c + tallyAt (kc (src c 0) none) () 1

/-! ## The persistent records -/

/-- A cell's invariant and that its owner has reached the round. -/
def rec (K : Dev nD × Cx → ℕ) (y : Dev nD × Cx) : sProp 𝕄 :=
  iprop(cellInv ER (Rd m) (K y) (kc y.1 y.2) ∗ reached ER (kc y.1 y.2) 0)
instance rec_persistent (K : Dev nD × Cx → ℕ) (y : Dev nD × Cx) : BI.Persistent (rec m K y) := by unfold rec; infer_instance

/-- Every cell's, and the levels. -/
def recs (K : Dev nD × Cx → ℕ) : sProp 𝕄 := iprop(bigSep Finset.univ (rec m K) ∗ levAts L lv)
instance recs_persistent (K : Dev nD × Cx → ℕ) : BI.Persistent (recs m K) := by unfold recs; infer_instance

/-- One cell's record. -/
theorem recs_at (K : Dev nD × Cx → ℕ) (c : Dev nD) (x : Cx) : recs m K ⊢ rec m K (c, x) := by
  unfold recs
  iintro ⟨H, -⟩
  ihave H := (show bigSep Finset.univ (rec m K) ⊢ rec m K (c, x) from bigSep_elim (Finset.mem_univ (c, x))) $$ H
  iexact H
/-- The levels. -/
theorem recs_lev (K : Dev nD × Cx → ℕ) : recs m K ⊢ (levAts L lv : sProp 𝕄) := by
  unfold recs; iintro ⟨-, H⟩; iexact H

end Cert.KernelIdeal.Ring

end
-- ==== Proof.KISteps.lean ====
module
public import proofs.«01_k».proof.Proof.KICells
public import Idealize.ShloMosaic.Lib.Pipeline.BigSepL
@[expose] public section

noncomputable section

/-! What each step of the body takes and gives back. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (K : Dev nD × Cx → ℕ)

/-- What follows from an assertion follows in another spelling. -/
theorem ent_eq {A B C : sProp 𝕄} (h : A ⊢ B) (e : B = C) : A ⊢ C := e ▸ h

/-- No variants are in use. -/
abbrev 𝒱₀ : Variants := Variants.none

/-- The weakest precondition of a program on device `c`. -/
abbrev WP (c : Dev nD) (p : P F) (Q : PUnit → sProp 𝕄) : sProp 𝕄 :=
  wp frame (wpE (defs₀ (F := F)) 𝒱₀ (c : Thread nD τ) none) Set.univ p Q

/-- The step `f` takes `A` to `B` on device `c`. -/
def Tr (c : Dev nD) (A : sProp 𝕄) (f : P F → P F) (B : sProp 𝕄) : Prop :=
  ∀ (k : P F) (Q : PUnit → sProp 𝕄), iprop(recs m K ∗ A) ⊢ iprop((B -∗ WP c k Q) -∗ WP c (f k) Q)

variable {m K}

/-- One step and then another. -/
theorem Tr.comp {c : Dev nD} {A B C : sProp 𝕄} {f g : P F → P F} (h : Tr m K c A f B) (h' : Tr m K c B g C) :
    Tr m K c A (fun k => f (g k)) C := by
  intro k Q
  iintro ⟨#HR, HA⟩ Hk
  iapply (h (g k) Q) $$ [HA]
  · isplitr; · iexact HR
    iexact HA
  iintro HB
  iapply (h' k Q) $$ [HB]
  · isplitr; · iexact HR
    iexact HB
  iexact Hk

/-- A step beside a state it does not touch, on the right. -/
theorem Tr.frame {c : Dev nD} {A B : sProp 𝕄} {f : P F → P F} (h : Tr m K c A f B) (R : sProp 𝕄) :
    Tr m K c iprop(A ∗ R) f iprop(B ∗ R) := by
  intro k Q
  iintro ⟨#HR, HA, HF⟩ Hk
  iapply (h k Q) $$ [HA]
  · isplitr; · iexact HR
    iexact HA
  iintro HB
  iapply Hk
  isplitl [HB]; · iexact HB
  iexact HF

/-- A step from more to less. -/
theorem Tr.mono {c : Dev nD} {A B A' B' : sProp 𝕄} {f : P F → P F} (h : Tr m K c A f B) (hA : A' ⊢ A) (hB : B ⊢ B') :
    Tr m K c A' f B' := by
  intro k Q
  iintro ⟨#HR, HA⟩ Hk
  iapply (h k Q) $$ [HA]
  · isplitr; · iexact HR
    iapply hA; iexact HA
  iintro HB
  iapply Hk
  iapply hB; iexact HB

/-- The step that does nothing. -/
theorem Tr.skip {c : Dev nD} {A : sProp 𝕄} : Tr m K c A (fun k => k) A := by
  intro k Q
  iintro ⟨-, HA⟩ Hk
  iapply Hk; iexact HA

/-- Steps over a list: a state `S` runs along the list while each member's share `A a` becomes `B a`. -/
theorem Tr.each {α : Type} {c : Dev nD} {f : α → P F → P F} (S : List α → sProp 𝕄) (A B : α → sProp 𝕄)
    (l : List α) (h : ∀ a r, a :: r <:+ l → Tr m K c iprop(S (a :: r) ∗ A a) (f a) iprop(S r ∗ B a)) :
    Tr m K c iprop(S l ∗ bigSepL l A) (Ring.each l f) iprop(S [] ∗ bigSepL l B) := by
  induction l with
  | nil => rw [bigSepL_nil, bigSepL_nil]; exact Tr.skip
  | cons a l ih =>
    rw [bigSepL_cons', bigSepL_cons']
    have h1 := (h a l List.suffix_rfl).frame (bigSepL l A)
    have h2 := (ih fun b r hr => h b r (hr.trans (List.suffix_cons a l))).frame (B a)
    have h3 := Tr.comp (h1.mono (A' := iprop(S (a :: l) ∗ A a ∗ bigSepL l A)) (B' := iprop((S l ∗ bigSepL l A) ∗ B a))
      (by iintro ⟨H1, H2, H3⟩; isplitr [H3]
          · isplitl [H1] <;> iassumption
          · iexact H3)
      (by iintro ⟨⟨H1, H2⟩, H3⟩; isplitr [H2]
          · isplitl [H1] <;> iassumption
          · iexact H2)) h2
    exact h3.mono .rfl (by
      iintro ⟨⟨H1, H2⟩, H3⟩; isplitl [H1]; · iexact H1
      isplitl [H3] <;> iassumption)

variable (m K)

/-! ## Names for what the steps hold -/

/-- The owner of a DMA cell stands before its round. -/
abbrev at0 (c : Dev nD) (x : Dx) : sProp 𝕄 := atPos ER (kc c (some x)) 0 ∅ 0
/-- The owner of a DMA cell stands after its round. -/
abbrev at1 (c : Dev nD) (x : Dx) : sProp 𝕄 := atPos ER (kc c (some x)) 1 ∅ 0
/-- The right to pay a DMA cell. -/
abbrev tk (c : Dev nD) (x : Dx) : sProp 𝕄 := dutyTok ER (kc c (some x)) 0 (0 : Fin 2)
/-- The credit of a DMA cell. -/
abbrev cr (c : Dev nD) (x : Dx) : sProp 𝕄 := cred (tallyAt (kc c (some x)) () (amt x))
/-- Hops still owed. -/
def ow (c : Dev nD) (l : List Hx) : sProp 𝕄 := iprop(∃ W, owes (c : Thread nD τ) (owe c l) W)
/-- The copy's rows in VMEM at something. -/
def tAny (c : Dev nD) (k : Fin 7) : sProp 𝕄 := iprop(∃ f, ((c : Thread nD τ).loc cc0_scratch0) ↦[(inRect c k).set]{fullShare} f)

/-- What a hop takes: the rights to pay its two ends and the slot it lands in. -/
def hopT (c : Dev nD) (x : Hx) : sProp 𝕄 :=
  iprop(tk c (cSnd x) ∗ tk (dst c x.2.2) (cRcv x) ∗ slotAny (dst c x.2.2) x.1.1 x.2.2 x.2.1 (up x.1.2))

/-- A hop's credit at its sending end. -/
theorem amt_snd (x : Hx) (d : Fin 2) (g s : Fin 4) : (slot x.1.1 d g s).view.dmaCredit = amt (cSnd x) := rfl
/-- And at its receiving end. -/
theorem amt_rcv (x : Hx) (d : Fin 2) (g s : Fin 4) : (slot x.1.1 d g s).view.dmaCredit = amt (cRcv x) := rfl

/-! ## Signals, copies and waits -/

/-- A signal to the barrier of the device whose direction `d` ends here hands over this device's landing slots. -/
theorem signal_step (c : Dev nD) (d : Fin 2) (O : CellTallies nD τ sig Unit) (W : Waits sig Unit) :
    Tr m K c iprop(owes (c : Thread nD τ) (O + tallyAt (kc (src c d) none) () 1) W ∗ dutyTok ER (kc (src c d) none) 0 d ∗ land c d)
      (fun k => .op (.semSignal (Dev.tc (src c d) : Thread nD τ) barS.sem ((1 : ℕ) : ℤ)) fun _ => k)
      (owes (c : Thread nD τ) O W) := by
  intro k Q
  iintro ⟨#HR, HO, HT, HL⟩ Hk
  ihave #Hr := recs_at m K (src c d) none $$ HR
  unfold rec
  icases Hr with ⟨#HI, #Hre⟩
  iapply (Rounds.wp_signal 𝒱₀ ER (Rd m) (c : Thread nD τ) none (dst := (src c d : Thread nD τ)) (κ := K (src c d, none))
      (d := d) (by show d ∈ (Rd m).duties (kc (src c d) none) 0; rw [duties_bar]; exact Finset.mem_univ _) (amount_bar m (src c d) d) () O rfl)
    $$ [HO HT HL]
  · isplitr; · iexact HI
    isplitl [HO]; · iexact HO
    isplitl [HT]; · iexact HT
    isplitl [HL]
    · iapply (Entails.of_eq (show land c d = (Rd m).payload ((src c d : Thread nD τ), .reg barS.sem) 0 d from
        Eq.symm ((payload_bar m (src c d) d).trans (by rw [dst_src])))); iexact HL
    iexact Hre
  iexact Hk

/-- A wait on a DMA cell gives what its copy hands over. -/
theorem wait_step (c : Dev nD) (x : Dx) (l : List Hx) (hl : ∀ y ∈ l, lvx (some x) < lvx (some (cRcv y)))
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (dsm x) (amt x) Kt) :
    Tr m K c iprop(ow c l ∗ at0 c x ∗ cr c x) (fun k => .op w fun _ => k) iprop(ow c l ∗ at1 c x ∗ pay m c x) := by
  intro k Q
  unfold ow
  iintro ⟨#HR, ⟨%W, HO⟩, Hat, Hcr⟩ Hk
  ihave #Hr := recs_at m K c (some x) $$ HR
  ihave #Hlev := recs_lev m K $$ HR
  unfold rec
  icases Hr with ⟨#HI, #Hre⟩
  iapply (Rounds.wp_wait_rest_token 𝒱₀ ER (Rd m) (c : Thread nD τ) none (κ := K (c, some x)) (sm := dsm x) (k' := amt x)
      hw (Set.mem_univ _) () (O := owe c l) (W := W) (R := 0) (m := 0) (T := ∅)
      (by rw [Nat.zero_add]; exact (expect_dma m c x).symm)) $$ [Hcr HO Hat]
  · isplitr; · iexact HI
    isplitl [Hcr]; · iexact Hcr
    isplitl [HO]; · iexact HO
    isplitr; · iapply (mayWait c (some x) l hl); iexact Hlev
    iexact Hat
  iintro ⟨HO, Hat, -, Hpay⟩
  ihave Hp := (Entails.of_eq (show bigSep ((Rd m).duties ((c : Thread nD τ), dsm x) 0 \ ∅) (fun d => (Rd m).payload ((c : Thread nD τ), dsm x) 0 d) = pay m c x
    from rest_dma m c x)) $$ Hpay
  iapply Hk
  isplitl [HO]; · iexists _; iexact HO
  isplitl [Hat]; · iexact Hat
  iexact Hp

/-- The wait on the barrier gives the slots where this device's hops land. -/
theorem barrier_step (c : Dev nD) (l : List Hx) :
    Tr m K c iprop(ow c l ∗ atPos ER (kc c none) 0 ∅ 0 ∗ cred (tallyAt (kc c none) () 2))
      (fun k => .op (.semWait barS.sem ((2 : ℕ) : ℤ)) fun _ => k)
      iprop(ow c l ∗ atPos ER (kc c none) 1 ∅ 0 ∗ land (dst c 0) 0 ∗ land (dst c 1) 1) := by
  intro k Q
  unfold ow
  iintro ⟨#HR, ⟨%W, HO⟩, Hat, Hcr⟩ Hk
  ihave #Hr := recs_at m K c none $$ HR
  ihave #Hlev := recs_lev m K $$ HR
  unfold rec
  icases Hr with ⟨#HI, #Hre⟩
  iapply (Rounds.wp_wait_rest_token 𝒱₀ ER (Rd m) (c : Thread nD τ) none (κ := K (c, none)) (sm := csm none)
      (wpE_semWait_eq 𝒱₀ (c : Thread nD τ) none Set.univ) (Set.mem_univ _) () (O := owe c l) (W := W) (R := 0) (m := 0) (T := ∅)
      (by rw [Nat.zero_add]; exact (expect_bar m c).symm)) $$ [Hcr HO Hat]
  · isplitr; · iexact HI
    isplitl [Hcr]; · iexact Hcr
    isplitl [HO]; · iexact HO
    isplitr
    · iapply (mayWait c none l (fun y _ => by show 1 < 2 + _; omega)); iexact Hlev
    iexact Hat
  iintro ⟨HO, Hat, -, Hpay⟩
  ihave Hp := (Entails.of_eq (rest_bar m c)) $$ Hpay
  iapply Hk
  isplitl [HO]; · iexists _; iexact HO
  isplitl [Hat] <;> iassumption

/-- A copy of rows of the argument into VMEM. -/
theorem copyIn_step (c : Dev nD) (k7 : Fin 7) (R : Rect S4096x1024) (hR : inRect c k7 = R) (hs : ∀ a, R.stride a = 1)
    (hN : (tM.slice R hs).view.dmaCredit = amt (cIn k7))
    {h1 : (xM.slice R hs).view.WordExact} {h2 : (tM.slice R hs).view.WordExact}
    {h3 : DmaTarget.Typed .hbm (.dma (inS k7).sem) (.here (tM.slice R hs) : DmaTarget nD τ sig .tc .vmem R.shape .f32)} :
    Tr m K c iprop(xPart m c k7 ∗ tAny (F := F) c k7 ∗ tk c (cIn k7))
      (fun k => .op (.enqueueDma (xM.slice R hs) (.here (tM.slice R hs)) (.dma (inS k7).sem) h1 h2 h3) fun _ => k)
      (cr c (cIn k7)) := by
  subst hR
  intro k Q
  unfold xPart tAny
  iintro ⟨#HR, Hx, ⟨%f, Ht⟩, HT⟩ Hk
  ihave #Hr := recs_at m K c (some (cIn k7)) $$ HR
  unfold rec
  icases Hr with ⟨#HI, #Hre⟩
  have sx : (xM.slice (inRect c k7) hs).view.set = (inRect c k7).set := View.set_slice_whole main_arg0 (inRect c k7)
  have st : (tM.slice (inRect c k7) hs).view.set = (inRect c k7).set := View.set_slice_whole cc0_scratch0 (inRect c k7)
  iapply (Rounds.wp_copy_pointsTo 𝒱₀ ER (Rd m) (c : Thread nD τ) none (src := xM.slice (inRect c k7) hs) (dst := tM.slice (inRect c k7) hs)
      (sem := .dma (inS k7).sem) (fs := m ((c : Thread nD τ).loc main_arg0)) (fd := f) (q := fullShare) (r := 0) (d := 0) (κ := K (c, some (cIn k7)))
      (by show (0 : Fin 2) ∈ (Rd m).duties (kc c (some (cIn k7))) 0; rw [duties_dma]; exact Finset.mem_singleton_self _) () (amt (cIn k7)) hN (amount_dma m c (cIn k7) 0)
      (by
        refine ent_eq ?_ (payload_dma m c (cIn k7) 0).symm
        show _ ⊢ iprop(tPart m c k7 ∗ xPart m c k7)
        unfold tPart xPart
        rw [sx, st]
        refine sep_mono_left (Entails.of_eq (pointsTo_congr fun i hi => ?_))
        obtain ⟨j, -, rfl⟩ := Finset.mem_map.mp (by rw [← st] at hi; exact hi)
        rw [View.write_emb_of_mem _ _ (Finset.mem_univ j)]
        rfl)) $$ [Hx Ht HT]
  · isplitr; · iexact HI
    isplitl [Hx]; · rw [sx]; iexact Hx
    isplitl [Ht]; · rw [st]; iexact Ht
    isplitl [HT]; · iexact HT
    iexact Hre
  iexact Hk

/-- A copy of the device's own rows is started. -/
theorem ownGo_step (c : Dev nD) (g : Fin 4) :
    Tr m K c iprop(xPart m c (ownIx g) ∗ tAny (F := F) c (ownIx g) ∗ tk c (cIn (ownIx g))) (ownGo c g) (cr c (cIn (ownIx g))) :=
  copyIn_step m K c (ownIx g) (ownRect c g) (inRect_own c g) (fun _ => rfl)
    (by show _ = if g.val < 4 then _ else _; rw [if_pos g.isLt]; rfl)

/-- A copy of another chunk is started. -/
theorem chkGo_step (c : Dev nD) (r : Fin 3) :
    Tr m K c iprop(xPart m c (chkIx r) ∗ tAny (F := F) c (chkIx r) ∗ tk c (cIn (chkIx r))) (chkGo c r) (cr c (cIn (chkIx r))) :=
  copyIn_step m K c (chkIx r) (chkRect c r) (inRect_chk c r) (fun _ => rfl)
    (by show _ = if 4 + (r.val + 1) % 3 < 4 then _ else _; rw [if_neg (by omega)]; rfl)

/-- The own rows are waited for. -/
theorem ownWait_step (c : Dev nD) (g : Fin 4) (l : List Hx) :
    Tr m K c iprop(ow c l ∗ at0 c (cIn (ownIx g)) ∗ cr c (cIn (ownIx g))) (ownWait c g)
      iprop(ow c l ∗ at1 c (cIn (ownIx g)) ∗ tPart m c (ownIx g) ∗ xPart m c (ownIx g)) :=
  wait_step m K c (cIn (ownIx g)) l (fun y _ => by show 0 < 2 + _; omega) _ fun Kt =>
    (wpE_waitDma2_eq 𝒱₀ (c : Thread nD τ) none Set.univ Kt).trans (congrArg (fun n => waitSpec (c : Thread nD τ) Set.univ (dsm (cIn (ownIx g))) n Kt)
      (by show _ = if g.val < 4 then _ else _; rw [if_pos g.isLt]; rfl))

/-- A chunk is waited for. -/
theorem chkWait_step (c : Dev nD) (r : Fin 3) (l : List Hx) :
    Tr m K c iprop(ow c l ∗ at0 c (cIn (chkIx r)) ∗ cr c (cIn (chkIx r))) (chkWait c r)
      iprop(ow c l ∗ at1 c (cIn (chkIx r)) ∗ tPart m c (chkIx r) ∗ xPart m c (chkIx r)) :=
  wait_step m K c (cIn (chkIx r)) l (fun y _ => by show 0 < 2 + _; omega) _ fun Kt =>
    (wpE_waitDma2_eq 𝒱₀ (c : Thread nD τ) none Set.univ Kt).trans (congrArg (fun n => waitSpec (c : Thread nD τ) Set.univ (dsm (cIn (chkIx r))) n Kt)
      (by show _ = if 4 + (r.val + 1) % 3 < 4 then _ else _; rw [if_neg (by omega)]; rfl))

/-- A slot is waited for: it has what the sender had. -/
theorem rcvWait_step (c : Dev nD) (b d : Fin 2) (g : Fin 4) (h : Fin 3) (l : List Hx)
    (hl : ∀ y ∈ l, 3 * b.val + h.val < 3 * y.1.1.val + y.1.2.val) :
    Tr m K c iprop(ow c l ∗ at0 c (cRcv ((b, h), (g, d))) ∗ cr c (cRcv ((b, h), (g, d)))) (rcvWait b d g h)
      iprop(ow c l ∗ at1 c (cRcv ((b, h), (g, d))) ∗ slotAt c b d g (up h) fullShare (val m b d g (lo h) (src c d))) :=
  wait_step m K c (cRcv ((b, h), (g, d))) l (fun y hy => by show 2 + _ < 2 + _; exact Nat.add_lt_add_left (hl y hy) 2) _ fun Kt =>
    (wpE_waitDma2_eq 𝒱₀ (c : Thread nD τ) none Set.univ Kt)

/-- A hop's sending end is waited for: the slot comes back. -/
theorem sndWait_step (c : Dev nD) (b d : Fin 2) (g : Fin 4) (h : Fin 3) (l : List Hx) :
    Tr m K c iprop(ow c l ∗ at0 c (cSnd ((b, h), (g, d))) ∗ cr c (cSnd ((b, h), (g, d)))) (sndWait b d g h)
      iprop(ow c l ∗ at1 c (cSnd ((b, h), (g, d))) ∗ slotAt c b d g (lo h) (sh b) (val m b d g (lo h) c)) :=
  wait_step m K c (cSnd ((b, h), (g, d))) l (fun y _ => by show 0 < 2 + _; omega) _ fun Kt =>
    (wpE_waitDma2_eq 𝒱₀ (c : Thread nD τ) none Set.univ Kt)

/-- A copy into the result is waited for: the block is final. -/
theorem outWait_step (c : Dev nD) (d : Fin 2) (g s : Fin 4) (l : List Hx) :
    Tr m K c iprop(ow c l ∗ at0 c (cOut (s, (g, d))) ∗ cr c (cOut (s, (g, d)))) (outWait c d g s)
      iprop(ow c l ∗ at1 c (cOut (s, (g, d))) ∗ yAt c d g s (val m 1 d g s c) ∗ slotAt c 1 d g s fullShare.right (val m 1 d g s c)) :=
  wait_step m K c (cOut (s, (g, d))) l (fun y _ => by show 0 < 2 + _; omega) _ fun Kt =>
    (wpE_waitDma2_eq 𝒱₀ (c : Thread nD τ) none Set.univ Kt)

/-- A hop sends a slot's contents to the next device of the stream. -/
theorem hop_step (c : Dev nD) (b d : Fin 2) (g : Fin 4) (h : Fin 3) (l : List Hx) :
    Tr m K c iprop(ow c (((b, h), (g, d)) :: l) ∗ slotAt c b d g (lo h) (sh b) (val m b d g (lo h) c) ∗ hopT c ((b, h), (g, d)))
      (hop c b d g h) iprop(ow c l ∗ cr c (cSnd ((b, h), (g, d)))) := by
  intro k Q
  unfold ow hopT slotAny slotAt owns
  iintro ⟨#HR, ⟨%W, HO⟩, ⟨%fs, %hfs, Hs⟩, HT1, HT2, %v, ⟨%fd, %hfd, Hd⟩⟩ Hk
  ihave #Hr := recs_at m K c (some (cSnd ((b, h), (g, d)))) $$ HR
  ihave #Hr' := recs_at m K (dst c d) (some (cRcv ((b, h), (g, d)))) $$ HR
  unfold rec
  icases Hr with ⟨#HI, #Hre⟩
  icases Hr' with ⟨#HI', #Hre'⟩
  unfold hop
  iapply (Rounds.wp_send_pointsTo 𝒱₀ ER (Rd m) (c : Thread nD τ) none (c' := (dst c d : Thread nD τ)) (src := slot b d g (lo h)) (dst := slot b d g (up h))
      (sS := .dma (sndS b d g h).sem) (sem := .dma (rcvS b d g h).sem) (q := sh b) (fs := fs) (fd := fd)
      (κ₁ := K (c, some (cSnd ((b, h), (g, d))))) (κ₂ := K (dst c d, some (cRcv ((b, h), (g, d)))))
      (r₁ := 0) (r₂ := 0) (d₁ := 0) (d₂ := 0)
      (by show (0 : Fin 2) ∈ (Rd m).duties (kc c (some (cSnd ((b, h), (g, d))))) 0; rw [duties_dma]; exact Finset.mem_singleton_self _)
      (by show (0 : Fin 2) ∈ (Rd m).duties (kc (dst c d) (some (cRcv ((b, h), (g, d))))) 0; rw [duties_dma]; exact Finset.mem_singleton_self _)
      () () (amt (cRcv ((b, h), (g, d)))) rfl (amount_dma m c (cSnd ((b, h), (g, d))) 0) (amount_dma m (dst c d) (cRcv ((b, h), (g, d))) 0)
      (owe c l) rfl (W := W)
      (by
        refine ent_eq ?_ (payload_dma m c (cSnd ((b, h), (g, d))) 0).symm
        show _ ⊢ slotAt c b d g (lo h) (sh b) (val m b d g (lo h) c)
        rw [← hfs]; exact owns_intro _ _ _ _)
      (by
        refine ent_eq ?_ (payload_dma m (dst c d) (cRcv ((b, h), (g, d))) 0).symm
        show _ ⊢ slotAt (dst c d) b d g (up h) fullShare (val m b d g (lo h) (src (dst c d) d))
        rw [src_dst, ← hfs]
        refine (owns_intro _ _ _ _).trans (Entails.of_eq ?_)
        rw [View.read_write_univ])) $$ [Hs Hd HO HT1 HT2]
  · isplitr; · iexact HI
    isplitr; · iexact HI'
    isplitl [Hs]; · iexact Hs
    isplitl [Hd]; · iexact Hd
    isplitl [HO]; · iexact HO
    isplitl [HT1]; · iexact HT1
    isplitr; · iexact Hre
    isplitl [HT2]; · iexact HT2
    iexact Hre'
  iintro ⟨Hc, HO⟩
  iapply Hk
  isplitl [HO]; · iexists W; iexact HO
  iexact Hc

/-- The copy of a gathered slot into the result. -/
theorem emit_step (c : Dev nD) (d : Fin 2) (g s : Fin 4) :
    Tr m K c iprop(slotAt c 1 d g s fullShare.right (val m 1 d g s c) ∗ (∃ v, yAt c d g s v) ∗ tk c (cOut (s, (g, d))))
      (emit c d g s) (cr c (cOut (s, (g, d)))) := by
  intro k Q
  unfold slotAt yAt owns
  iintro ⟨#HR, ⟨%fs, %hfs, Hs⟩, ⟨%v, %fd, %hfd, Hd⟩, HT⟩ Hk
  ihave #Hr := recs_at m K c (some (cOut (s, (g, d)))) $$ HR
  unfold rec
  icases Hr with ⟨#HI, #Hre⟩
  unfold emit
  iapply (Rounds.wp_copy_pointsTo 𝒱₀ ER (Rd m) (c : Thread nD τ) none (src := slot 1 d g s) (dst := yBlk c d g s)
      (sem := .dma (outS d g s).sem) (fs := fs) (fd := fd) (q := fullShare.right) (r := 0) (d := 0) (κ := K (c, some (cOut (s, (g, d)))))
      (by show (0 : Fin 2) ∈ (Rd m).duties (kc c (some (cOut (s, (g, d))))) 0; rw [duties_dma]; exact Finset.mem_singleton_self _)
      () (amt (cOut (s, (g, d)))) rfl (amount_dma m c (cOut (s, (g, d))) 0)
      (by
        refine ent_eq ?_ (payload_dma m c (cOut (s, (g, d))) 0).symm
        show _ ⊢ iprop(yAt c d g s (val m 1 d g s c) ∗ slotAt c 1 d g s fullShare.right (val m 1 d g s c))
        rw [← hfs]
        refine BI.sep_mono ((owns_intro _ _ _ _).trans (Entails.of_eq ?_)) (owns_intro _ _ _ _)
        rw [View.read_write_univ])) $$ [Hs Hd HT]
  · isplitr; · iexact HI
    isplitl [Hs]; · iexact Hs
    isplitl [Hd]; · iexact Hd
    isplitl [HT]; · iexact HT
    iexact Hre
  iexact Hk

/-! ## Loads and stores -/

/-- A matrix as a slot. -/
abbrev toSlot (v : S256x512.Idx → Elt F .bf16) : Vec F S1x1x1x256x512 .bf16 := shapeCast S1x1x1x256x512 v shapeCasts_S256x512_S1x1x1x256x512

/-- Reading a slot through its buffer. -/
theorem slot_read (b d : Fin 2) (g s : Fin 4) (f : (slot b d g s).view.ty.Contents (Elt F)) :
    ((bM b).access (sRect d g s)).read (Elt F) f = toSlot ((slot b d g s).view.read (Elt F) f) :=
  (shapeCast_shapeCast (((bM b).access (sRect d g s)).read (Elt F) f) shapeCasts_S1x1x1x256x512_S256x512 shapeCasts_S256x512_S1x1x1x256x512).symm

/-- A slot's elements in its buffer. -/
theorem slot_set (b d : Fin 2) (g s : Fin 4) : (slot b d g s).view.set = ((bM b).access (sRect d g s)).set := View.set_reshape _ _

/-- A slot written through its buffer reads as what was written. -/
theorem slot_write (b d : Fin 2) (g s : Fin 4) (f : (slot b d g s).view.ty.Contents (Elt F)) (w : S256x512.Idx → Elt F .bf16) :
    (slot b d g s).view.read (Elt F) (((bM b).access (sRect d g s)).write (Elt F) f (toSlot w) Finset.univ) = w := by
  have h := View.read_write_univ (v := (bM b).access (sRect d g s)) (Val := Elt F) f (toSlot w)
  rw [slot_read] at h
  have h' := congrArg (fun u => shapeCast S256x512 u shapeCasts_S1x1x1x256x512_S256x512) h
  simpa only [toSlot, shapeCast_shapeCast] using h'

/-- Loading a slot gives its contents. -/
theorem sLoad_step (c : Dev nD) (b d : Fin 2) (g s : Fin 4) (q : PosShare TreeShare) (v : S256x512.Idx → Elt F .bf16)
    (k : Vec F S1x1x1x256x512 .bf16 → P F) (Q : PUnit → sProp 𝕄) :
    slotAt c b d g s q v ⊢ iprop((slotAt c b d g s q v -∗ WP c (k (toSlot v)) Q) -∗ WP c (sLoad b d g s k) Q) := by
  unfold slotAt owns sLoad
  rw [slot_set]
  iintro ⟨%f, %hf, H⟩ Hk
  iapply (wp_load_rect 𝒱₀ (c : Thread nD τ) none Set.univ (m := bM b) (r := sRect d g s) (S := ((bM b).access (sRect d g s)).set) (q := q) (f := f) (Finset.Subset.refl _)) $$ H
  iintro H
  rw [slot_read, hf]
  iapply Hk
  iexists f
  isplitr; · (ipureintro; exact hf)
  iexact H

/-- Storing into a slot sets its contents. -/
theorem sStore_step (c : Dev nD) (b d : Fin 2) (g s : Fin 4) (v w : S256x512.Idx → Elt F .bf16) (k : P F) (Q : PUnit → sProp 𝕄) :
    slotAt c b d g s fullShare v ⊢ iprop((slotAt c b d g s fullShare w -∗ WP c k Q) -∗ WP c (sStore b d g s (toSlot w) k) Q) := by
  unfold slotAt owns sStore
  rw [slot_set]
  iintro ⟨%f, %hf, H⟩ Hk
  iapply (wp_store 𝒱₀ (c : Thread nD τ) none Set.univ (m := bM b) (r := sRect d g s) (Mk := Finset.univ) (f := f)
    (S := ((bM b).access (sRect d g s)).set) (Finset.Subset.refl _)) $$ H
  iintro H
  iapply Hk
  iexists _
  isplitr; · (ipureintro; exact slot_write b d g s f w)
  iexact H

/-- Loading a step's operand from rows that have arrived. -/
theorem tLoad_step (c : Dev nD) (d : Fin 2) (g s : Fin 4) (S : Finset S4096x1024.Idx) (hS : (tRect c d g s).set ⊆ S)
    (k : Vec F S256x512 .f32 → P F) (Q : PUnit → sProp 𝕄) :
    (((c : Thread nD τ).loc cc0_scratch0) ↦[S]{fullShare} (X m c) : sProp 𝕄)
      ⊢ iprop(((((c : Thread nD τ).loc cc0_scratch0) ↦[S]{fullShare} (X m c)) -∗ WP c (k (xblk m c d g s)) Q) -∗ WP c (tLoad c d g s k) Q) := by
  unfold tLoad
  refine wp_load 𝒱₀ (c : Thread nD τ) none Set.univ (m := tM) (r := (tRect c d g s).toLoadRect) (f := X m c) (S := S) (q := fullShare) ?_
  intro i hi
  obtain ⟨j, hj, rfl⟩ := Finset.mem_map.mp hi
  exact hS hj

end Cert.KernelIdeal.Ring

end
-- ==== Proof.KIPhases.lean ====
module
public import proofs.«01_k».proof.Proof.KISteps
@[expose] public section

noncomputable section

/-! The compound steps of the body, and its loops over the streams. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (K : Dev nD × Cx → ℕ)

/-- A family of pairs over a list is a pair of families. -/
theorem bigSepL_pair {α : Type} (l : List α) (A B : α → sProp 𝕄) :
    bigSepL l (fun a => iprop(A a ∗ B a)) = iprop(bigSepL l A ∗ bigSepL l B) := by
  induction l with
  | nil => exact (equiv_iff.mp emp_sep).symm
  | cons a l ih =>
    rw [bigSepL_cons', bigSepL_cons', bigSepL_cons', ih]
    show BI.sep (BI.sep _ _) (BI.sep _ _) = BI.sep (BI.sep _ _) (BI.sep _ _)
    ac_rfl

/-! ## Values of the compound steps -/

/-- A rounded block as a slot. -/
theorem pRound_eq (v : Vec F S256x512 .f32) : pRound v = toSlot (truncf .bf16 v bitsLt_bf16_f32 : FVec F S256x512 .bf16) := rfl
/-- A slot plus a rounded block, as matrices. -/
theorem pAdd_eq (u : S256x512.Idx → Elt F .bf16) (v : Vec F S256x512 .f32) :
    pAdd (toSlot u) v = toSlot (addf (u : FVec F S256x512 .bf16) (truncf .bf16 v bitsLt_bf16_f32 : FVec F S256x512 .bf16)) := by
  unfold pAdd toSlot; rw [shapeCast_shapeCast]
/-- The function at a slot, as matrices. -/
theorem pFin_eq (u : S256x512.Idx → Elt F .bf16) :
    pFin (toSlot u) = toSlot (fBlk (extf .f32 (u : FVec F S256x512 .bf16) bitsLt_bf16_f32)) := by
  unfold pFin toSlot; rw [shapeCast_shapeCast]

/-- The next slot of the reduction is the one that arrives plus the own block. -/
theorem val_up (d : Fin 2) (g : Fin 4) (h : Fin 3) (c : Dev nD) :
    val m 0 d g (up h) c = addf (F := F) (val m 0 d g (lo h) (src c d) : FVec F S256x512 .bf16) (truncf .bf16 (xblk m c d g (up h)) bitsLt_bf16_f32) := by
  show addf _ (tblk m c d g (Fin.ofNat 4 (h.val + 1))) = _
  rw [show Fin.ofNat 4 (h.val + 1) = up h from Fin.ext (Nat.mod_eq_of_lt (by omega))]; rfl

/-- The next slot of the gathering is the one that arrives. -/
theorem val_ag (d : Fin 2) (g : Fin 4) (h : Fin 3) (c : Dev nD) : val m 1 d g (up h) c = val m 1 d g (lo h) (src c d) := rfl

/-- A step's own operand lies in the rows of its copy. -/
theorem own_sub (c : Dev nD) (d : Fin 2) (g : Fin 4) : (tRect c d g 0).set ⊆ (inRect c (ownIx g)).set := by
  rw [inRect_own]
  intro i hi
  rw [Rect.mem_set_unit] at hi ⊢
  rw [tOff_eq] at hi
  rw [Cert.KernelIdeal.Gen.k0_off1_eq c g]
  intro a
  have h0 := hi 0
  have h1 := hi 1
  have hb : (i 1).val < 1024 := (i 1).isLt
  have hc : c.val < 4 := c.isLt
  have ht : tChunk c d 0 = c.val := by unfold tChunk; split <;> show (c.val + _) % 4 = _ <;> omega
  match a with
  | 0 => rw [ht] at h0; exact h0
  | 1 => exact ⟨Nat.zero_le _, hb⟩

/-! ## The copy of the argument, whole -/

/-- The copy in VMEM at the argument. -/
def tAll (c : Dev nD) : sProp 𝕄 := ((c : Thread nD τ).loc cc0_scratch0) ↦[Finset.univ]{fullShare} (X m c)

/-! ## Compound steps -/

/-- The device's own block goes into slot 0. -/
theorem init_step (c : Dev nD) (d : Fin 2) (g : Fin 4) :
    Tr m K c iprop(tPart m c (ownIx g) ∗ slotAny c 0 d g 0) (init c d g)
      iprop(tPart m c (ownIx g) ∗ slotAt c 0 d g 0 fullShare (val m 0 d g 0 c)) := by
  intro k Q
  unfold init tPart slotAny
  iintro ⟨#HR, Ht, %w, Hs⟩ Hk
  iapply (tLoad_step m c d g 0 _ (own_sub c d g) _ Q) $$ Ht
  iintro Ht
  iapply (sLoad_step c 0 d g 0 fullShare w _ Q) $$ Hs
  iintro Hs
  rw [pRound_eq]
  iapply (sStore_step c 0 d g 0 w _ k Q) $$ Hs
  iintro Hs
  iapply Hk
  isplitl [Ht]; · iexact Ht
  iexact Hs

/-- The device's own block is added to a slot that arrived. -/
theorem addStep_step (c : Dev nD) (d : Fin 2) (g : Fin 4) (h : Fin 3) (l : List Hx)
    (hl : ∀ y ∈ l, 3 * (0 : Fin 2).val + h.val < 3 * y.1.1.val + y.1.2.val) :
    Tr m K c iprop(ow c l ∗ (at0 c (cRcv ((0, h), (g, d))) ∗ cr c (cRcv ((0, h), (g, d)))) ∗ tAll m c) (addStep c d g h)
      iprop(ow c l ∗ at1 c (cRcv ((0, h), (g, d))) ∗ slotAt c 0 d g (up h) fullShare (val m 0 d g (up h) c) ∗ tAll m c) := by
  intro k Q
  unfold addStep tAll
  iintro ⟨#HR, HO, ⟨Hat, Hcr⟩, Ht⟩ Hk
  iapply (rcvWait_step m K c 0 d g h l hl _ Q) $$ [HO Hat Hcr]
  · isplitr; · iexact HR
    isplitl [HO]; · iexact HO
    isplitl [Hat] <;> iassumption
  iintro ⟨HO, Hat, Hs⟩
  iapply (sLoad_step c 0 d g (up h) fullShare _ _ Q) $$ Hs
  iintro Hs
  iapply (tLoad_step m c d g (up h) _ (Finset.subset_univ _) _ Q) $$ Ht
  iintro Ht
  iapply (sLoad_step c 0 d g (up h) fullShare _ _ Q) $$ Hs
  iintro Hs
  rw [pAdd_eq, ← val_up]
  iapply (sStore_step c 0 d g (up h) _ _ k Q) $$ Hs
  iintro Hs
  iapply Hk
  isplitl [HO]; · iexact HO
  isplitl [Hat]; · iexact Hat
  isplitl [Hs] <;> iassumption

/-- The function at the sums goes into slot 0 of the gathering. -/
theorem finStep_step (c : Dev nD) (d : Fin 2) (g : Fin 4) :
    Tr m K c iprop(slotAt c 0 d g 3 fullShare (val m 0 d g 3 c) ∗ slotAny c 1 d g 0) (finStep d g)
      iprop(slotAt c 0 d g 3 fullShare (val m 0 d g 3 c) ∗ slotAt c 1 d g 0 fullShare (val m 1 d g 0 c)) := by
  intro k Q
  unfold finStep slotAny
  iintro ⟨#HR, Hs, %w, Hw⟩ Hk
  iapply (sLoad_step c 0 d g 3 fullShare _ _ Q) $$ Hs
  iintro Hs
  iapply (sLoad_step c 1 d g 0 fullShare w _ Q) $$ Hw
  iintro Hw
  rw [pFin_eq]
  iapply (sStore_step c 1 d g 0 w _ k Q) $$ Hw
  iintro Hw
  iapply Hk
  isplitl [Hs]; · iexact Hs
  iexact Hw

/-- The hop after hop `h`. -/
abbrev nx (h : Fin 3) (hh : h.val < 2) : Fin 3 := ⟨h.val + 1, by omega⟩

/-- What a wait for an arrival takes. -/
abbrev wt (c : Dev nD) (x : Hx) : sProp 𝕄 := iprop(at0 c (cRcv x) ∗ cr c (cRcv x))
/-- What a copy into the result takes besides its slot. -/
abbrev oT (c : Dev nD) (x : Fin 4 × GD) : sProp 𝕄 := iprop((∃ v, yAt c x.2.2 x.2.1 x.1 v) ∗ tk c (cOut x))

/-- A step of the reduction that another follows. -/
theorem rsStep_mid (c : Dev nD) (h : Fin 3) (hh : h.val < 2) (gd : GD) (l : List Hx)
    (hl : ∀ y ∈ (((0, nx h hh), gd) : Hx) :: l, 3 * (0 : Fin 2).val + h.val < 3 * y.1.1.val + y.1.2.val) :
    Tr m K c iprop((ow c (((0, nx h hh), gd) :: l) ∗ tAll m c) ∗ (wt c ((0, h), gd) ∗ hopT c ((0, nx h hh), gd))) (rsStep c h gd)
      iprop((ow c l ∗ tAll m c) ∗ (at1 c (cRcv ((0, h), gd)) ∗ cr c (cSnd ((0, nx h hh), gd)))) := by
  obtain ⟨g, d⟩ := gd
  intro k Q
  unfold rsStep
  rw [dif_pos hh]
  iintro ⟨#HR, ⟨HO, Ht⟩, Hw, Hh⟩ Hk
  iapply (addStep_step m K c d g h _ hl _ Q) $$ [HO Hw Ht]
  · isplitr; · iexact HR
    isplitl [HO]; · iexact HO
    isplitl [Hw] <;> iassumption
  iintro ⟨HO, Hat, Hs, Ht⟩
  iapply (hop_step m K c 0 d g (nx h hh) l k Q) $$ [HO Hs Hh]
  · isplitr; · iexact HR
    isplitl [HO]; · iexact HO
    isplitl [Hs]; · iexact Hs
    iexact Hh
  iintro ⟨HO, Hc⟩
  iapply Hk
  isplitl [HO Ht]
  · isplitl [HO] <;> iassumption
  isplitl [Hat] <;> iassumption

/-- The last step of the reduction. -/
theorem rsStep_last (c : Dev nD) (gd : GD) (l : List Hx)
    (hl : ∀ y ∈ (((1, 0), gd) : Hx) :: l, 3 * (0 : Fin 2).val + (2 : Fin 3).val < 3 * y.1.1.val + y.1.2.val) :
    Tr m K c iprop((ow c (((1, 0), gd) :: l) ∗ tAll m c) ∗ (wt c ((0, 2), gd) ∗ hopT c ((1, 0), gd) ∗ slotAny c 1 gd.2 gd.1 0 ∗ oT c (0, gd)))
      (rsStep c 2 gd)
      iprop((ow c l ∗ tAll m c) ∗ (at1 c (cRcv ((0, 2), gd)) ∗ cr c (cSnd ((1, 0), gd)) ∗ slotAt c 0 gd.2 gd.1 3 fullShare (val m 0 gd.2 gd.1 3 c)
        ∗ cr c (cOut (0, gd)))) := by
  obtain ⟨g, d⟩ := gd
  intro k Q
  unfold rsStep
  rw [dif_neg (by decide)]
  iintro ⟨#HR, ⟨HO, Ht⟩, Hw, Hh, Hs1, Hy, Htk⟩ Hk
  iapply (addStep_step m K c d g 2 _ hl _ Q) $$ [HO Hw Ht]
  · isplitr; · iexact HR
    isplitl [HO]; · iexact HO
    isplitl [Hw] <;> iassumption
  iintro ⟨HO, Hat, Hs, Ht⟩
  iapply (finStep_step m K c d g _ Q) $$ [Hs Hs1]
  · isplitr; · iexact HR
    isplitl [Hs]; · iexact Hs
    iexact Hs1
  iintro ⟨Hs, Hv⟩
  ihave Hv := (owns_halves (c : Thread nD τ) (slot 1 d g 0) fullShare (val m 1 d g 0 c)).1 $$ Hv
  icases Hv with ⟨Hv, Hv'⟩
  iapply (hop_step m K c 1 d g 0 l _ Q) $$ [HO Hv Hh]
  · isplitr; · iexact HR
    isplitl [HO]; · iexact HO
    isplitl [Hv]; · iexact Hv
    iexact Hh
  iintro ⟨HO, Hc⟩
  iapply (emit_step m K c d g 0 k Q) $$ [Hv' Hy Htk]
  · isplitr; · iexact HR
    isplitl [Hv']; · iexact Hv'
    isplitl [Hy]; · iexact Hy
    iexact Htk
  iintro Hc'
  iapply Hk
  isplitl [HO Ht]
  · isplitl [HO] <;> iassumption
  isplitl [Hat]; · iexact Hat
  isplitl [Hc]; · iexact Hc
  isplitl [Hs] <;> iassumption

/-- A step of the gathering that another follows. -/
theorem agStep_mid (c : Dev nD) (h : Fin 3) (hh : h.val < 2) (gd : GD) (l : List Hx)
    (hl : ∀ y ∈ (((1, nx h hh), gd) : Hx) :: l, 3 * (1 : Fin 2).val + h.val < 3 * y.1.1.val + y.1.2.val) :
    Tr m K c iprop(ow c (((1, nx h hh), gd) :: l) ∗ (wt c ((1, h), gd) ∗ hopT c ((1, nx h hh), gd) ∗ oT c (up h, gd))) (agStep c h gd)
      iprop(ow c l ∗ (at1 c (cRcv ((1, h), gd)) ∗ cr c (cSnd ((1, nx h hh), gd)) ∗ cr c (cOut (up h, gd)))) := by
  obtain ⟨g, d⟩ := gd
  intro k Q
  unfold agStep
  rw [dif_pos hh]
  iintro ⟨#HR, HO, Hw, Hh, Hy, Htk⟩ Hk
  iapply (rcvWait_step m K c 1 d g h _ hl _ Q) $$ [HO Hw]
  · isplitr; · iexact HR
    isplitl [HO]; · iexact HO
    iexact Hw
  iintro ⟨HO, Hat, Hv⟩
  ihave Hv := (owns_halves (c : Thread nD τ) (slot 1 d g (up h)) fullShare (val m 1 d g (lo h) (src c d))).1 $$ Hv
  icases Hv with ⟨Hv, Hv'⟩
  iapply (hop_step m K c 1 d g (nx h hh) l _ Q) $$ [HO Hv Hh]
  · isplitr; · iexact HR
    isplitl [HO]; · iexact HO
    isplitl [Hv]; · iexact Hv
    iexact Hh
  iintro ⟨HO, Hc⟩
  iapply (emit_step m K c d g (up h) k Q) $$ [Hv' Hy Htk]
  · isplitr; · iexact HR
    isplitl [Hv']; · iexact Hv'
    isplitl [Hy]; · iexact Hy
    iexact Htk
  iintro Hc'
  iapply Hk
  isplitl [HO]; · iexact HO
  isplitl [Hat]; · iexact Hat
  isplitl [Hc] <;> iassumption

/-- The last step of the gathering. -/
theorem agStep_last (c : Dev nD) (gd : GD) (l : List Hx)
    (hl : ∀ y ∈ l, 3 * (1 : Fin 2).val + (2 : Fin 3).val < 3 * y.1.1.val + y.1.2.val) :
    Tr m K c iprop(ow c l ∗ (wt c ((1, 2), gd) ∗ oT c (3, gd))) (agStep c 2 gd)
      iprop(ow c l ∗ (at1 c (cRcv ((1, 2), gd)) ∗ slotAt c 1 gd.2 gd.1 3 fullShare.left (val m 1 gd.2 gd.1 3 c) ∗ cr c (cOut (3, gd)))) := by
  obtain ⟨g, d⟩ := gd
  intro k Q
  unfold agStep
  rw [dif_neg (by decide)]
  iintro ⟨#HR, HO, Hw, Hy, Htk⟩ Hk
  iapply (rcvWait_step m K c 1 d g 2 _ hl _ Q) $$ [HO Hw]
  · isplitr; · iexact HR
    isplitl [HO]; · iexact HO
    iexact Hw
  iintro ⟨HO, Hat, Hv⟩
  ihave Hv := (owns_halves (c : Thread nD τ) (slot 1 d g (up 2)) fullShare (val m 1 d g (lo 2) (src c d))).1 $$ Hv
  icases Hv with ⟨Hv, Hv'⟩
  iapply (emit_step m K c d g (up 2) k Q) $$ [Hv' Hy Htk]
  · isplitr; · iexact HR
    isplitl [Hv']; · iexact Hv'
    isplitl [Hy]; · iexact Hy
    iexact Htk
  iintro Hc'
  iapply Hk
  isplitl [HO]; · iexact HO
  isplitl [Hat]; · iexact Hat
  isplitl [Hv]; · iexact Hv
  iexact Hc'

/-! ## The first hops -/

/-- Rows `g` arrive and both streams take them. -/
def firstA (c : Dev nD) (g : Fin 4) (k : P F) : P F := ownWait c g (init c 0 g (init c 1 g k))
/-- Both streams send. -/
def firstB (c : Dev nD) (g : Fin 4) (k : P F) : P F := hop c 0 0 g 0 (hop c 0 1 g 0 k)

/-- The first group's start has the barrier's wait in it. -/
theorem first_zero (c : Dev nD) (k : P F) : first c 0 k = firstA c 0 (.op (.semWait barS.sem ((2 : ℕ) : ℤ)) fun _ => firstB c 0 k) := rfl
/-- The other groups' has not. -/
theorem first_pos (c : Dev nD) (g : Fin 4) (hg : g.val ≠ 0) (k : P F) : first c g k = firstA c g (firstB c g k) := by
  unfold first; rw [if_neg hg]; rfl

/-- Slot 0 of a stream's reduction, at something and at this device's own block. -/
abbrev s0Any (c : Dev nD) (gd : GD) : sProp 𝕄 := slotAny c 0 gd.2 gd.1 0

/-- A group of rows arrives and is rounded into slot 0 of both streams. -/
theorem firstA_step (c : Dev nD) (g : Fin 4) (l : List Hx) :
    Tr m K c iprop(ow c l ∗ (at0 c (cIn (ownIx g)) ∗ cr c (cIn (ownIx g))) ∗ slotAny c 0 0 g 0 ∗ slotAny c 0 1 g 0) (firstA c g)
      iprop(ow c l ∗ (at1 c (cIn (ownIx g)) ∗ tPart m c (ownIx g) ∗ xPart m c (ownIx g))
        ∗ slotAt c 0 0 g 0 fullShare (val m 0 0 g 0 c) ∗ slotAt c 0 1 g 0 fullShare (val m 0 1 g 0 c)) := by
  intro k Q
  unfold firstA
  iintro ⟨#HR, HO, Hw, H0, H1⟩ Hk
  iapply (ownWait_step m K c g l _ Q) $$ [HO Hw]
  · isplitr; · iexact HR
    isplitl [HO]; · iexact HO
    iexact Hw
  iintro ⟨HO, Hat, Ht, Hx⟩
  iapply (init_step m K c 0 g _ Q) $$ [Ht H0]
  · isplitr; · iexact HR
    isplitl [Ht]; · iexact Ht
    iexact H0
  iintro ⟨Ht, H0⟩
  iapply (init_step m K c 1 g _ Q) $$ [Ht H1]
  · isplitr; · iexact HR
    isplitl [Ht]; · iexact Ht
    iexact H1
  iintro ⟨Ht, H1⟩
  iapply Hk
  isplitl [HO]; · iexact HO
  isplitl [Hat Ht Hx]
  · isplitl [Hat]; · iexact Hat
    isplitl [Ht] <;> iassumption
  isplitl [H0] <;> iassumption

/-- Both streams send slot 0. -/
theorem firstB_step (c : Dev nD) (g : Fin 4) (l : List Hx) :
    Tr m K c iprop(ow c (((0, 0), (g, 0)) :: ((0, 0), (g, 1)) :: l) ∗ (slotAt c 0 0 g 0 fullShare (val m 0 0 g 0 c) ∗ slotAt c 0 1 g 0 fullShare (val m 0 1 g 0 c))
        ∗ hopT c ((0, 0), (g, 0)) ∗ hopT c ((0, 0), (g, 1))) (firstB c g)
      iprop(ow c l ∗ cr c (cSnd ((0, 0), (g, 0))) ∗ cr c (cSnd ((0, 0), (g, 1)))) := by
  intro k Q
  unfold firstB
  iintro ⟨#HR, HO, ⟨H0, H1⟩, Hh0, Hh1⟩ Hk
  iapply (hop_step m K c 0 0 g 0 _ _ Q) $$ [HO H0 Hh0]
  · isplitr; · iexact HR
    isplitl [HO]; · iexact HO
    isplitl [H0]; · iexact H0
    iexact Hh0
  iintro ⟨HO, Hc0⟩
  iapply (hop_step m K c 0 1 g 0 _ _ Q) $$ [HO H1 Hh1]
  · isplitr; · iexact HR
    isplitl [HO]; · iexact HO
    isplitl [H1]; · iexact H1
    iexact Hh1
  iintro ⟨HO, Hc1⟩
  iapply Hk
  isplitl [HO]; · iexact HO
  isplitl [Hc0] <;> iassumption

end Cert.KernelIdeal.Ring

end
-- ==== Proof.KIParts.lean ====
module
public import proofs.«01_k».proof.Proof.KIPhases
@[expose] public section

noncomputable section

/-! Buffers held piece by piece, and families of resources regrouped. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ)

/-! ## Families -/

/-- A family that follows member by member. -/
theorem fam_mono {α : Type} [Fintype α] {A B : α → sProp 𝕄} (h : ∀ a, A a ⊢ B a) : bigSep Finset.univ A ⊢ bigSep Finset.univ B :=
  bigSep_mono fun a _ => h a

/-- The seven copies of the argument, in the order the kernel makes them. -/
theorem in_split (Φ : Fin 7 → sProp 𝕄) :
    bigSep Finset.univ Φ = iprop(bigSepL [0, 1, 2, 3] (fun g : Fin 4 => Φ (ownIx g)) ∗ bigSepL [2, 0, 1] (fun r : Fin 3 => Φ (chkIx r))) := by
  rw [bigSep_univ_eq_bigSepL (([0, 1, 2, 3] : List (Fin 4)).map ownIx ++ ([2, 0, 1] : List (Fin 3)).map chkIx) (by decide) (by decide),
    bigSepL_append, bigSepL_map, bigSepL_map]

/-- The streams, in the order the kernel walks them. -/
theorem gd_split (Φ : GD → sProp 𝕄) : bigSep Finset.univ Φ = bigSepL gds Φ := bigSep_univ_eq_bigSepL gds (by decide) (by decide) Φ

/-- The slots, position by position. -/
theorem slot_split (Φ : Fin 4 × GD → sProp 𝕄) :
    bigSep Finset.univ Φ = bigSepL [0, 1, 2, 3] fun s : Fin 4 => bigSepL gds fun gd => Φ (s, gd) := by
  rw [bigSep_univ_prod, bigSep_univ_eq_bigSepL [0, 1, 2, 3] (by decide) (by decide)]
  exact congrArg _ (funext fun s => gd_split _)

/-- The hops, stage by stage. -/
theorem hx_split (Φ : Hx → sProp 𝕄) :
    bigSep Finset.univ Φ = bigSepL sts fun st => bigSepL gds fun gd => Φ (st, gd) := by
  rw [bigSep_univ_prod, bigSep_univ_eq_bigSepL sts (by decide) (by decide)]
  exact congrArg _ (funext fun s => gd_split _)

/-- The streams, group by group. -/
theorem gd_pairs (Φ : GD → sProp 𝕄) : bigSepL gds Φ = bigSepL [0, 1, 2, 3] fun g : Fin 4 => iprop(Φ (g, 0) ∗ Φ (g, 1)) := by
  show BI.sep _ (BI.sep _ (BI.sep _ (BI.sep _ (BI.sep _ (BI.sep _ (BI.sep _ _))))))
    = BI.sep (BI.sep _ _) (BI.sep (BI.sep _ _) (BI.sep (BI.sep _ _) (BI.sep _ _)))
  ac_rfl

/-- The hops of both directions. -/
theorem hx_dirs (Φ : Hx → sProp 𝕄) :
    iprop(bigSep (Finset.univ : Finset (St × Fin 4)) (fun x => Φ (x.1, (x.2, 0))) ∗ bigSep (Finset.univ : Finset (St × Fin 4)) (fun x => Φ (x.1, (x.2, 1))))
      = bigSep Finset.univ Φ := by
  rw [bigSep_univ_prod Φ, bigSep_univ_prod fun x : St × Fin 4 => Φ (x.1, (x.2, 0)), bigSep_univ_prod fun x : St × Fin 4 => Φ (x.1, (x.2, 1)), ← bigSep_sep']
  refine congrArg _ (funext fun st => ?_)
  rw [bigSep_univ_prod fun gd : GD => Φ (st, gd), ← bigSep_sep']
  refine congrArg _ (funext fun g => ?_)
  rw [bigSep_univ_eq_bigSepL [0, 1] (by decide) (by decide)]
  rfl

/-- A device's landing slots of both directions. -/
theorem land_both (f : Fin 2 → Dev nD) :
    iprop(land (F := F) (f 0) 0 ∗ land (f 1) 1) = bigSep Finset.univ fun x : Hx => slotAny (F := F) (f x.2.2) x.1.1 x.2.2 x.2.1 (up x.1.2) := by
  unfold land
  rw [← hx_dirs]

/-- All DMA cells of a device. -/
theorem dx_split (Φ : Dx → sProp 𝕄) :
    bigSep Finset.univ Φ = iprop(bigSep Finset.univ (fun k => Φ (cIn k)) ∗ bigSep Finset.univ (fun x => Φ (cOut x))
      ∗ bigSep Finset.univ (fun x => Φ (cSnd x)) ∗ bigSep Finset.univ (fun x => Φ (cRcv x))) := by
  rw [bigSep_univ_sum Φ, bigSep_univ_sum fun y => Φ (.inr y), bigSep_univ_sum fun y => Φ (.inr (.inr y))]
  rfl

/-! ## The argument's rows -/

/-- The rows that a copy of the argument moves. -/
theorem mem_inRect (c : Dev nD) (k : Fin 7) (i : S4096x1024.Idx) :
    i ∈ (inRect c k).set ↔ (if k.val < 4 then 1024 * c.val + 256 * k.val ≤ (i 0).val ∧ (i 0).val < 1024 * c.val + 256 * k.val + 256
      else 1024 * ((c.val + (k.val - 4 + 2) % 3 + 1) % 4) ≤ (i 0).val ∧ (i 0).val < 1024 * ((c.val + (k.val - 4 + 2) % 3 + 1) % 4) + 1024) := by
  have h1 : (i 1).val < 1024 := (i 1).isLt
  unfold inRect
  split
  · rename_i hk
    rw [Rect.mem_set_unit]
    have e := Cert.KernelIdeal.Gen.k0_off1_eq c ⟨k.val, hk⟩
    constructor
    · intro h; have h0 := h 0; rw [e] at h0; exact h0
    · intro h a; rw [e]
      match a with
      | 0 => exact h
      | 1 => exact ⟨Nat.zero_le _, by show (i 1).val < 0 + 1024; omega⟩
  · rename_i hk
    rw [Rect.mem_set_unit]
    have e := Cert.KernelIdeal.Gen.k0_off2_eq c ⟨(k.val - 4 + 2) % 3, Nat.mod_lt _ (by decide)⟩
    constructor
    · intro h; have h0 := h 0; rw [e] at h0; exact h0
    · intro h a; rw [e]
      match a with
      | 0 => exact h
      | 1 => exact ⟨Nat.zero_le _, by show (i 1).val < 0 + 1024; omega⟩

/-- Different copies move different rows. -/
theorem in_disj (c : Dev nD) (k k' : Fin 7) (h : k ≠ k') : Disjoint (inRect c k).set (inRect c k').set := by
  rw [Finset.disjoint_left]
  intro i hi hi'
  rw [mem_inRect] at hi hi'
  have hc : c.val < 4 := c.isLt
  have hne : k.val ≠ k'.val := fun e => h (Fin.ext e)
  split at hi <;> split at hi' <;> omega

/-- Together they move all rows. -/
theorem in_cover (c : Dev nD) : Finset.univ.biUnion (fun k => (inRect c k).set) = Finset.univ := by
  refine Finset.eq_univ_of_forall fun i => Finset.mem_biUnion.mpr ?_
  have hc : c.val < 4 := c.isLt
  have h0 : (i 0).val < 4096 := (i 0).isLt
  by_cases hq : (i 0).val / 1024 = c.val
  · refine ⟨⟨((i 0).val % 1024) / 256, by omega⟩, Finset.mem_univ _, ?_⟩
    rw [mem_inRect, if_pos (by show ((i 0).val % 1024) / 256 < 4; omega)]
    dsimp only; omega
  · refine ⟨⟨4 + (((i 0).val / 1024 + 3 - c.val) % 4 + 1) % 3, by omega⟩, Finset.mem_univ _, ?_⟩
    rw [mem_inRect, if_neg (by show ¬ (4 + _ < 4); omega)]
    dsimp only; omega

/-- The argument is held copy by copy. -/
theorem x_parts (c : Dev nD) :
    (((c : Thread nD τ).loc main_arg0) ↦[Finset.univ]{fullShare} (m ((c : Thread nD τ).loc main_arg0)) : sProp 𝕄)
      = bigSep Finset.univ (xPart m c) :=
  Idealize.ShloMosaic.Ring.pointsTo_blocks (ℓ := (c : Thread nD τ).loc main_arg0) (fun k => (inRect c k).set) (fun k k' h => in_disj c k k' h) (in_cover c) _

/-- So is its copy in VMEM, -/
theorem t_parts (c : Dev nD) : tAll m c = bigSep Finset.univ (tPart m c) :=
  Idealize.ShloMosaic.Ring.pointsTo_blocks (ℓ := (c : Thread nD τ).loc cc0_scratch0) (fun k => (inRect c k).set) (fun k k' h => in_disj c k k' h) (in_cover c) _

/-- and before it is filled. -/
theorem t_any (c : Dev nD) :
    (iprop(∃ f, ((c : Thread nD τ).loc cc0_scratch0) ↦[Finset.univ]{fullShare} f) : sProp 𝕄) ⊢ bigSep Finset.univ (tAny (F := F) c) := by
  iintro ⟨%f, H⟩
  ihave H := (Entails.of_eq (Idealize.ShloMosaic.Ring.pointsTo_blocks (ℓ := (c : Thread nD τ).loc cc0_scratch0) (fun k => (inRect c k).set)
    (fun k k' h => in_disj c k k' h) (in_cover c) f)) $$ H
  ihave H := (fam_mono fun k => show
    (((c : Thread nD τ).loc cc0_scratch0) ↦[(inRect c k).set]{fullShare} f : sProp 𝕄) ⊢ tAny c k from by
      unfold tAny; iintro H; iexists f; iexact H) $$ H
  iexact H

/-! ## Slots -/

/-- A slot's elements. -/
theorem mem_sRect (d : Fin 2) (g s : Fin 4) (i : S2x4x4x256x512.Idx) :
    i ∈ (sRect d g s).set ↔ (i 0).val = d.val ∧ (i 1).val = g.val ∧ (i 2).val = s.val := by
  rw [Rect.mem_set_unit]
  have h3 : (i 3).val < 256 := (i 3).isLt
  have h4 : (i 4).val < 512 := (i 4).isLt
  constructor
  · intro h
    have h0 : d.val ≤ (i 0).val ∧ (i 0).val < d.val + 1 := h 0
    have h1 : g.val ≤ (i 1).val ∧ (i 1).val < g.val + 1 := h 1
    have h2 : s.val ≤ (i 2).val ∧ (i 2).val < s.val + 1 := h 2
    omega
  · rintro ⟨e0, e1, e2⟩ a
    match a with
    | 0 => exact ⟨e0.ge, by show (i 0).val < d.val + 1; omega⟩
    | 1 => exact ⟨e1.ge, by show (i 1).val < g.val + 1; omega⟩
    | 2 => exact ⟨e2.ge, by show (i 2).val < s.val + 1; omega⟩
    | 3 => exact ⟨Nat.zero_le _, by show (i 3).val < 0 + 256; omega⟩
    | 4 => exact ⟨Nat.zero_le _, by show (i 4).val < 0 + 512; omega⟩

/-- A slot's elements. -/
abbrev sSet (x : Fin 4 × GD) : Finset S2x4x4x256x512.Idx := (sRect x.2.2 x.2.1 x.1).set

/-- Different slots have no element in common. -/
theorem s_disj (x y : Fin 4 × GD) (h : x ≠ y) : Disjoint (sSet x) (sSet y) := by
  rw [Finset.disjoint_left]
  intro i hi hi'
  rw [mem_sRect] at hi hi'
  obtain ⟨s, g, d⟩ := x
  obtain ⟨s', g', d'⟩ := y
  exact h (by
    have e0 : d = d' := Fin.ext (hi.1.symm.trans hi'.1)
    have e1 : g = g' := Fin.ext (hi.2.1.symm.trans hi'.2.1)
    have e2 : s = s' := Fin.ext (hi.2.2.symm.trans hi'.2.2)
    rw [e0, e1, e2])

/-- Together they are the buffer. -/
theorem s_cover : Finset.univ.biUnion sSet = Finset.univ := by
  refine Finset.eq_univ_of_forall fun i => Finset.mem_biUnion.mpr
    ⟨((⟨(i 2).val, (i 2).isLt⟩ : Fin 4), ((⟨(i 1).val, (i 1).isLt⟩ : Fin 4), (⟨(i 0).val, (i 0).isLt⟩ : Fin 2))), Finset.mem_univ _, ?_⟩
  rw [mem_sRect]; exact ⟨rfl, rfl, rfl⟩

/-- All slots of a buffer, at something. -/
def slotsAny (c : Dev nD) (b : Fin 2) : sProp 𝕄 := bigSep (Finset.univ : Finset (Fin 4 × GD)) fun x => slotAny c b x.2.2 x.2.1 x.1

/-- A slot of the reduction's buffer covers its rectangle. -/
theorem slot0_set (x : Fin 4 × GD) : (slot 0 x.2.2 x.2.1 x.1).view.set = sSet x := (slot_set 0 _ _ _).trans (View.set_slice_whole cc0_scratch1 _)
/-- So does one of the gathering's. -/
theorem slot1_set (x : Fin 4 × GD) : (slot 1 x.2.2 x.2.1 x.1).view.set = sSet x := (slot_set 1 _ _ _).trans (View.set_slice_whole cc0_scratch2 _)

/-- The reduction's buffer, whole at something. -/
def rsAny (c : Dev nD) : sProp 𝕄 := iprop(∃ f, ((c : Thread nD τ).loc cc0_scratch1) ↦[Finset.univ]{fullShare} f)
/-- The gathering's. -/
def agAny (c : Dev nD) : sProp 𝕄 := iprop(∃ f, ((c : Thread nD τ).loc cc0_scratch2) ↦[Finset.univ]{fullShare} f)

/-- The reduction's buffer divided into its slots. -/
theorem rs_split (c : Dev nD) : rsAny (F := F) c ⊢ slotsAny c 0 := by
  unfold rsAny slotsAny
  iintro ⟨%f, H⟩
  ihave H := (Entails.of_eq (Idealize.ShloMosaic.Ring.pointsTo_blocks (ℓ := (c : Thread nD τ).loc cc0_scratch1) sSet s_disj s_cover f)) $$ H
  ihave H := (fam_mono fun x => show
    (((c : Thread nD τ).loc cc0_scratch1) ↦[sSet x]{fullShare} f : sProp 𝕄) ⊢ slotAny c 0 x.2.2 x.2.1 x.1 from by
      rw [← slot0_set]
      iintro H; iexists _; iapply (owns_intro (c : Thread nD τ) (slot 0 x.2.2 x.2.1 x.1) fullShare f); iexact H) $$ H
  iexact H

/-- The gathering's buffer divided into its slots. -/
theorem ag_split (c : Dev nD) : agAny (F := F) c ⊢ slotsAny c 1 := by
  unfold agAny slotsAny
  iintro ⟨%f, H⟩
  ihave H := (Entails.of_eq (Idealize.ShloMosaic.Ring.pointsTo_blocks (ℓ := (c : Thread nD τ).loc cc0_scratch2) sSet s_disj s_cover f)) $$ H
  ihave H := (fam_mono fun x => show
    (((c : Thread nD τ).loc cc0_scratch2) ↦[sSet x]{fullShare} f : sProp 𝕄) ⊢ slotAny c 1 x.2.2 x.2.1 x.1 from by
      rw [← slot1_set]
      iintro H; iexists _; iapply (owns_intro (c : Thread nD τ) (slot 1 x.2.2 x.2.1 x.1) fullShare f); iexact H) $$ H
  iexact H

include m in
/-- The reduction's buffer put together. -/
theorem rs_join (c : Dev nD) : slotsAny (F := F) c 0 ⊢ rsAny c := by
  unfold rsAny slotsAny
  refine (bigSep_mono (s := Finset.univ) fun x (_ : x ∈ Finset.univ) => show
    slotAny c 0 x.2.2 x.2.1 x.1 ⊢ iprop(∃ f, (((c : Thread nD τ).loc cc0_scratch1) ↦[sSet x]{fullShare} f : sProp 𝕄)) from by
      rw [← slot0_set]
      unfold slotAny slotAt owns
      iintro ⟨%v, %f, %hf, H⟩; iexists f; iexact H).trans ?_
  exact Idealize.ShloMosaic.Ring.pointsTo_blocks_join_exists (ℓ := (c : Thread nD τ).loc cc0_scratch1) sSet s_disj s_cover (m ((c : Thread nD τ).loc cc0_scratch1))

include m in
/-- The gathering's buffer put together. -/
theorem ag_join (c : Dev nD) : slotsAny (F := F) c 1 ⊢ agAny c := by
  unfold agAny slotsAny
  refine (bigSep_mono (s := Finset.univ) fun x (_ : x ∈ Finset.univ) => show
    slotAny c 1 x.2.2 x.2.1 x.1 ⊢ iprop(∃ f, (((c : Thread nD τ).loc cc0_scratch2) ↦[sSet x]{fullShare} f : sProp 𝕄)) from by
      rw [← slot1_set]
      unfold slotAny slotAt owns
      iintro ⟨%v, %f, %hf, H⟩; iexists f; iexact H).trans ?_
  exact Idealize.ShloMosaic.Ring.pointsTo_blocks_join_exists (ℓ := (c : Thread nD τ).loc cc0_scratch2) sSet s_disj s_cover (m ((c : Thread nD τ).loc cc0_scratch2))

/-! ## The result's blocks -/

/-- A block's elements. -/
abbrev ySet (c : Dev nD) (x : Fin 4 × GD) : Finset S4096x1024.Idx := (yRect c x.2.2 x.2.1 x.1).set

/-- The elements of a block of the result. -/
theorem mem_yRect (c : Dev nD) (d : Fin 2) (g s : Fin 4) (i : S4096x1024.Idx) :
    i ∈ (yRect c d g s).set ↔ (1024 * yChunk c d s + 256 * g.val ≤ (i 0).val ∧ (i 0).val < 1024 * yChunk c d s + 256 * g.val + 256)
      ∧ 512 * d.val ≤ (i 1).val ∧ (i 1).val < 512 * d.val + 512 := by
  rw [Rect.mem_set_unit, yOff_eq]
  constructor
  · intro h; exact ⟨h 0, h 1⟩
  · rintro ⟨h0, h1⟩ a
    match a with
    | 0 => exact h0
    | 1 => exact h1

/-- Different blocks have no element in common. -/
theorem y_disj (c : Dev nD) (x y : Fin 4 × GD) (h : x ≠ y) : Disjoint (ySet c x) (ySet c y) := by
  rw [Finset.disjoint_left]
  intro i hi hi'
  obtain ⟨s, g, d⟩ := x
  obtain ⟨s', g', d'⟩ := y
  rw [mem_yRect] at hi hi'
  have hc : c.val < 4 := c.isLt
  dsimp only at hi hi'
  have ed : d = d' := Fin.ext (by omega)
  subst ed
  unfold yChunk at hi hi'
  apply h
  have eg : g = g' := Fin.ext (by split at hi <;> split at hi' <;> omega)
  have es : s = s' := Fin.ext (by split at hi <;> split at hi' <;> omega)
  rw [eg, es]

/-- Together they are the result. -/
theorem y_cover (c : Dev nD) : Finset.univ.biUnion (ySet c) = Finset.univ := by
  refine Finset.eq_univ_of_forall fun i => Finset.mem_biUnion.mpr ?_
  have hc : c.val < 4 := c.isLt
  have h0 : (i 0).val < 4096 := (i 0).isLt
  have h1 : (i 1).val < 1024 := (i 1).isLt
  by_cases hd : (i 1).val < 512
  · refine ⟨(⟨(c.val + 5 - (i 0).val / 1024) % 4, by omega⟩, (⟨(i 0).val % 1024 / 256, by omega⟩, 0)), Finset.mem_univ _,
      (mem_yRect c 0 ⟨(i 0).val % 1024 / 256, by omega⟩ ⟨(c.val + 5 - (i 0).val / 1024) % 4, by omega⟩ i).mpr ?_⟩
    rw [show yChunk c 0 ⟨(c.val + 5 - (i 0).val / 1024) % 4, by omega⟩ = (c.val + 5 - (c.val + 5 - (i 0).val / 1024) % 4) % 4 from rfl]
    simp only [Fin.val_zero]; omega
  · refine ⟨(⟨((i 0).val / 1024 + 5 - c.val) % 4, by omega⟩, (⟨(i 0).val % 1024 / 256, by omega⟩, 1)), Finset.mem_univ _,
      (mem_yRect c 1 ⟨(i 0).val % 1024 / 256, by omega⟩ ⟨((i 0).val / 1024 + 5 - c.val) % 4, by omega⟩ i).mpr ?_⟩
    rw [show yChunk c 1 ⟨((i 0).val / 1024 + 5 - c.val) % 4, by omega⟩ = (c.val + 3 + ((i 0).val / 1024 + 5 - c.val) % 4) % 4 from rfl]
    simp only [Fin.val_one]; omega

/-- A block covers its rectangle. -/
theorem yBlk_set (c : Dev nD) (x : Fin 4 × GD) : (yBlk c x.2.2 x.2.1 x.1).view.set = ySet c x := View.set_slice_whole main_v1 _

/-- The result at something. -/
def yAny (c : Dev nD) : sProp 𝕄 := iprop(∃ f, ((c : Thread nD τ).loc main_v1) ↦[Finset.univ]{fullShare} f)
/-- The result with every block final. -/
def yRes (c : Dev nD) : sProp 𝕄 :=
  iprop(∃ f, ⌜∀ x : Fin 4 × GD, (yBlk c x.2.2 x.2.1 x.1).view.read (Elt F) f = val m 1 x.2.2 x.2.1 x.1 c⌝
    ∗ ((c : Thread nD τ).loc main_v1) ↦[Finset.univ]{fullShare} f)

/-- The result divided into its blocks. -/
theorem y_split (c : Dev nD) :
    yAny (F := F) c ⊢ bigSep (Finset.univ : Finset (Fin 4 × GD)) fun x => iprop(∃ v, yAt c x.2.2 x.2.1 x.1 v) := by
  unfold yAny
  iintro ⟨%f, H⟩
  ihave H := (Entails.of_eq (Idealize.ShloMosaic.Ring.pointsTo_blocks (ℓ := (c : Thread nD τ).loc main_v1) (ySet c) (y_disj c) (y_cover c) f)) $$ H
  ihave H := (fam_mono fun x => show
    (((c : Thread nD τ).loc main_v1) ↦[ySet c x]{fullShare} f : sProp 𝕄) ⊢ iprop(∃ v, yAt c x.2.2 x.2.1 x.1 v) from by
      rw [← yBlk_set]
      iintro H; iexists _; iapply (owns_intro (c : Thread nD τ) (yBlk c x.2.2 x.2.1 x.1) fullShare f); iexact H) $$ H
  iexact H

/-- The result put together, every block final. -/
theorem y_join (c : Dev nD) :
    bigSep (Finset.univ : Finset (Fin 4 × GD)) (fun x => yAt c x.2.2 x.2.1 x.1 (val m 1 x.2.2 x.2.1 x.1 c)) ⊢ yRes m c := by
  unfold yRes
  have : Nonempty (Buf (Elt F) ((c : Thread nD τ).loc main_v1)) := ⟨m _⟩
  refine (bigSep_mono (s := Finset.univ) fun x (_ : x ∈ Finset.univ) => show
    yAt c x.2.2 x.2.1 x.1 (val m 1 x.2.2 x.2.1 x.1 c) ⊢ iprop(∃ f : Buf (Elt F) ((c : Thread nD τ).loc main_v1),
      ⌜(yBlk c x.2.2 x.2.1 x.1).view.read (Elt F) f = val m 1 x.2.2 x.2.1 x.1 c⌝ ∗ (((c : Thread nD τ).loc main_v1) ↦[ySet c x]{fullShare} f : sProp 𝕄)) from by
      rw [← yBlk_set]; exact .rfl).trans ?_
  refine (bigSep_exists_pi Finset.univ (fun (x : Fin 4 × GD) (f : Buf (Elt F) ((c : Thread nD τ).loc main_v1)) =>
    iprop(⌜(yBlk c x.2.2 x.2.1 x.1).view.read (Elt F) f = val m 1 x.2.2 x.2.1 x.1 c⌝ ∗ (((c : Thread nD τ).loc main_v1) ↦[ySet c x]{fullShare} f : sProp 𝕄)))).trans ?_
  iintro ⟨%fs, H⟩
  ihave H := (bigSep_pure_sep Finset.univ _ _) $$ H
  icases H with ⟨%hf, H⟩
  ihave H := (pointsTo_biUnion_join (ℓ := (c : Thread nD τ).loc main_v1) Finset.univ (ySet c) fs (m _) (fun x _ y _ h => y_disj c x y h)) $$ H
  icases H with ⟨%f, %hfs, H⟩
  iexists f
  isplitr
  · ipureintro
    intro x
    rw [← hf x (Finset.mem_univ x)]
    exact View.read_congr fun i hi => hfs x (Finset.mem_univ x) i (by rw [← yBlk_set]; exact hi)
  · rw [← y_cover c]; iexact H

end Cert.KernelIdeal.Ring

end
-- ==== Proof.KIBody.lean ====
module
public import proofs.«01_k».proof.Proof.KIParts
@[expose] public section

noncomputable section

/-! The body's loops, and the whole body of one device. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (K : Dev nD × Cx → ℕ)

/-- A stage's members of a family over the hops. -/
abbrev G (Φ : Hx → sProp 𝕄) (st : St) : sProp 𝕄 := bigSepL gds fun gd => Φ (st, gd)
/-- A position's members of a family over the slots. -/
abbrev G4 (Φ : Fin 4 × GD → sProp 𝕄) (s : Fin 4) : sProp 𝕄 := bigSepL gds fun gd => Φ (s, gd)

/-- A family over the hops, stage by stage. -/
theorem hx6 (Φ : Hx → sProp 𝕄) :
    bigSep Finset.univ Φ = iprop(G Φ (0, 0) ∗ G Φ (0, 1) ∗ G Φ (0, 2) ∗ G Φ (1, 0) ∗ G Φ (1, 1) ∗ G Φ (1, 2)) := hx_split Φ
/-- A family over the slots, position by position. -/
theorem slot4 (Φ : Fin 4 × GD → sProp 𝕄) :
    bigSep Finset.univ Φ = iprop(G4 Φ 0 ∗ G4 Φ 1 ∗ G4 Φ 2 ∗ G4 Φ 3) := slot_split Φ

/-- Steps over a list beside a fixed state. -/
theorem Tr.over {α : Type} {c : Dev nD} {f : α → P F → P F} (S : sProp 𝕄) (A B : α → sProp 𝕄) (l : List α)
    (h : ∀ a, Tr m K c iprop(S ∗ A a) (f a) iprop(S ∗ B a)) :
    Tr m K c iprop(S ∗ bigSepL l A) (Ring.each l f) iprop(S ∗ bigSepL l B) :=
  Tr.each (fun _ => S) A B l fun a _ _ => h a

/-- A step beside a state it does not touch. -/
theorem Tr.beside {c : Dev nD} {f : P F → P F} {A B : sProp 𝕄} (S : sProp 𝕄) (h : Tr m K c A f B) :
    Tr m K c iprop(S ∗ A) f iprop(S ∗ B) :=
  (h.frame S).mono (by iintro ⟨H, H'⟩; isplitl [H'] <;> iassumption) (by iintro ⟨H, H'⟩; isplitl [H'] <;> iassumption)

/-! ## The loops -/

/-- The copies of the device's own rows are started. -/
theorem loop_ownGo (c : Dev nD) (l : List (Fin 4)) (S : sProp 𝕄) :
    Tr m K c iprop(S ∗ bigSepL l (fun g => xPart m c (ownIx g)) ∗ bigSepL l (fun g => tAny (F := F) c (ownIx g)) ∗ bigSepL l (fun g => tk c (cIn (ownIx g))))
      (Ring.each l (ownGo c)) iprop(S ∗ bigSepL l fun g => cr c (cIn (ownIx g))) := by
  have h := Tr.over m K S _ _ l fun g => (ownGo_step m K c g).beside m K S
  simp only [bigSepL_pair] at h
  exact h

/-- The copies of the other chunks are started. -/
theorem loop_chkGo (c : Dev nD) (l : List (Fin 3)) (S : sProp 𝕄) :
    Tr m K c iprop(S ∗ bigSepL l (fun g => xPart m c (chkIx g)) ∗ bigSepL l (fun g => tAny (F := F) c (chkIx g)) ∗ bigSepL l (fun g => tk c (cIn (chkIx g))))
      (Ring.each l (chkGo c)) iprop(S ∗ bigSepL l fun g => cr c (cIn (chkIx g))) := by
  have h := Tr.over m K S _ _ l fun g => (chkGo_step m K c g).beside m K S
  simp only [bigSepL_pair] at h
  exact h

/-- They are waited for: the chunks are there. -/
theorem loop_chkWait (c : Dev nD) (l : List (Fin 3)) (o : List Hx) :
    Tr m K c iprop(ow c o ∗ bigSepL l (fun g => at0 c (cIn (chkIx g))) ∗ bigSepL l (fun g => cr c (cIn (chkIx g))))
      (Ring.each l (chkWait c))
      iprop(ow c o ∗ bigSepL l (fun g => at1 c (cIn (chkIx g))) ∗ bigSepL l (fun g => tPart m c (chkIx g)) ∗ bigSepL l (fun g => xPart m c (chkIx g))) := by
  have h := Tr.over m K (ow c o) _ _ l fun g => chkWait_step m K c g o
  simp only [bigSepL_pair] at h
  exact h

/-- Both directions' slots of a group, before and after it arrives. -/
def two (Φ : GD → sProp 𝕄) (g : Fin 4) : sProp 𝕄 := iprop(Φ (g, 0) ∗ Φ (g, 1))

/-- A family over the streams: the first group of rows, then the others. -/
theorem gd_two (Φ : GD → sProp 𝕄) : bigSepL gds Φ = iprop(two Φ 0 ∗ bigSepL [1, 2, 3] (two Φ)) := gd_pairs Φ

/-- The hops that a group of rows starts. -/
def pr (g : Fin 4) : List Hx := [((0, 0), (g, 0)), ((0, 0), (g, 1))]

/-- Groups 1, 2 and 3 of the own rows arrive, are rounded into slot 0 and are sent. -/
theorem loop_first (c : Dev nD) (rest : List Hx) :
    Tr m K c iprop(ow c (([1, 2, 3] : List (Fin 4)).flatMap pr ++ rest) ∗ bigSepL [1, 2, 3] (fun g => at0 c (cIn (ownIx g))) ∗ bigSepL [1, 2, 3] (fun g => cr c (cIn (ownIx g)))
        ∗ bigSepL [1, 2, 3] (fun g => two (fun gd => slotAny c 0 gd.2 gd.1 0) g) ∗ bigSepL [1, 2, 3] (fun g => two (fun gd => hopT c ((0, 0), gd)) g))
      (Ring.each [1, 2, 3] (first c))
      iprop(ow c rest ∗ bigSepL [1, 2, 3] (fun g => at1 c (cIn (ownIx g))) ∗ bigSepL [1, 2, 3] (fun g => tPart m c (ownIx g)) ∗ bigSepL [1, 2, 3] (fun g => xPart m c (ownIx g))
        ∗ bigSepL [1, 2, 3] (fun g => two (fun gd => cr c (cSnd ((0, 0), gd))) g)) := by
  have h := Tr.each (m := m) (K := K) (c := c) (f := first c) (fun l => ow c (l.flatMap pr ++ rest))
    (fun g => iprop(at0 c (cIn (ownIx g)) ∗ cr c (cIn (ownIx g)) ∗ two (fun gd => slotAny c 0 gd.2 gd.1 0) g ∗ two (fun gd => hopT c ((0, 0), gd)) g))
    (fun g => iprop(at1 c (cIn (ownIx g)) ∗ tPart m c (ownIx g) ∗ xPart m c (ownIx g) ∗ two (fun gd => cr c (cSnd ((0, 0), gd))) g))
    [1, 2, 3] (by
      intro g r hr k Q
      have hg : g.val ≠ 0 := by
        have : g ∈ ([1, 2, 3] : List (Fin 4)) := hr.subset List.mem_cons_self
        clear hr
        revert g; decide
      rw [first_pos c g hg]
      unfold two
      iintro ⟨#HR, HO, Hat, Hcr, ⟨H0, H1⟩, Hh0, Hh1⟩ Hk
      iapply (firstA_step m K c g _ _ Q) $$ [HO Hat Hcr H0 H1]
      · isplitr; · iexact HR
        isplitl [HO]; · iexact HO
        isplitl [Hat Hcr]; · (isplitl [Hat] <;> iassumption)
        isplitl [H0]; · iexact H0
        iexact H1
      iintro ⟨HO, ⟨Hat, Ht, Hx⟩, Hs⟩
      iapply (firstB_step m K c g (r.flatMap pr ++ rest) k Q) $$ [HO Hs Hh0 Hh1]
      · isplitr; · iexact HR
        isplitl [HO]; · iexact HO
        isplitl [Hs]; · iexact Hs
        isplitl [Hh0]; · iexact Hh0
        iexact Hh1
      iintro ⟨HO, Hc⟩
      iapply Hk
      isplitl [HO]; · iexact HO
      isplitl [Hat]; · iexact Hat
      isplitl [Ht]; · iexact Ht
      isplitl [Hx]; · iexact Hx
      iexact Hc)
  simp only [bigSepL_pair] at h
  exact h

/-- A stage of the reduction that another follows: slots arrive, are added to and are sent on. -/
theorem loop_rs_mid (c : Dev nD) (h h' : Fin 3) (hh : h.val < 2) (e : h' = nx h hh) (rest : List Hx) (hr : ∀ y ∈ rest, h.val < 3 * y.1.1.val + y.1.2.val) :
    Tr m K c iprop((ow c (stHops (0, h') ++ rest) ∗ tAll m c) ∗ (G (fun x => at0 c (cRcv x)) (0, h) ∗ G (fun x => cr c (cRcv x)) (0, h)) ∗ G (hopT c) (0, h'))
      (Ring.each gds (rsStep c h))
      iprop((ow c rest ∗ tAll m c) ∗ G (fun x => at1 c (cRcv x)) (0, h) ∗ G (fun x => cr c (cSnd x)) (0, h')) := by
  subst e
  simp only [G, G4, ← bigSepL_pair]
  refine Tr.each (m := m) (K := K) (c := c) (fun l => iprop(ow c (l.map (fun gd => (((0, nx h hh) : St), gd)) ++ rest) ∗ tAll m c)) _ _ gds fun a r _ => ?_
  refine rsStep_mid m K c h hh a (r.map (fun gd => (((0, nx h hh) : St), gd)) ++ rest) fun y hy => ?_
  rcases List.mem_cons.mp hy with rfl | hy
  · show 3 * 0 + h.val < 3 * 0 + (h.val + 1); omega
  rcases List.mem_append.mp hy with hy | hy
  · obtain ⟨gd, -, rfl⟩ := List.mem_map.mp hy
    show 3 * 0 + h.val < 3 * 0 + (h.val + 1); omega
  · have := hr y hy; show 3 * 0 + h.val < _; omega

/-- The last stage of the reduction: the sums are complete, and their function is sent and copied into the result. -/
theorem loop_rs_last (c : Dev nD) (rest : List Hx) (hr : ∀ y ∈ rest, 2 < 3 * y.1.1.val + y.1.2.val) :
    Tr m K c iprop((ow c (stHops (1, 0) ++ rest) ∗ tAll m c) ∗ (G (fun x => at0 c (cRcv x)) (0, 2) ∗ G (fun x => cr c (cRcv x)) (0, 2)) ∗ G (hopT c) (1, 0)
        ∗ G4 (fun x => slotAny c 1 x.2.2 x.2.1 x.1) 0 ∗ G4 (fun x => iprop(∃ v, yAt c x.2.2 x.2.1 x.1 v)) 0 ∗ G4 (fun x => tk c (cOut x)) 0)
      (Ring.each gds (rsStep c 2))
      iprop((ow c rest ∗ tAll m c) ∗ G (fun x => at1 c (cRcv x)) (0, 2) ∗ G (fun x => cr c (cSnd x)) (1, 0)
        ∗ G4 (fun x => slotAt c 0 x.2.2 x.2.1 x.1 fullShare (val m 0 x.2.2 x.2.1 x.1 c)) 3 ∗ G4 (fun x => cr c (cOut x)) 0) := by
  simp only [G, G4, ← bigSepL_pair]
  refine Tr.each (m := m) (K := K) (c := c) (fun l => iprop(ow c (l.map (fun gd => (((1, 0) : St), gd)) ++ rest) ∗ tAll m c)) _ _ gds fun a r _ => ?_
  refine rsStep_last m K c a (r.map (fun gd => (((1, 0) : St), gd)) ++ rest) fun y hy => ?_
  rcases List.mem_cons.mp hy with rfl | hy
  · show 3 * 0 + 2 < 3 * 1 + 0; omega
  rcases List.mem_append.mp hy with hy | hy
  · obtain ⟨gd, -, rfl⟩ := List.mem_map.mp hy
    show 3 * 0 + 2 < 3 * 1 + 0; omega
  · have := hr y hy; show 3 * 0 + 2 < _; omega

/-- A stage of the gathering that another follows: slots arrive, are sent on and are copied into the result. -/
theorem loop_ag_mid (c : Dev nD) (h h' : Fin 3) (s : Fin 4) (hh : h.val < 2) (e : h' = nx h hh) (es : s = up h) (rest : List Hx) (hr : ∀ y ∈ rest, 3 + h.val < 3 * y.1.1.val + y.1.2.val) :
    Tr m K c iprop(ow c (stHops (1, h') ++ rest) ∗ (G (fun x => at0 c (cRcv x)) (1, h) ∗ G (fun x => cr c (cRcv x)) (1, h)) ∗ G (hopT c) (1, h')
        ∗ G4 (fun x => iprop(∃ v, yAt c x.2.2 x.2.1 x.1 v)) s ∗ G4 (fun x => tk c (cOut x)) s)
      (Ring.each gds (agStep c h))
      iprop(ow c rest ∗ G (fun x => at1 c (cRcv x)) (1, h) ∗ G (fun x => cr c (cSnd x)) (1, h') ∗ G4 (fun x => cr c (cOut x)) s) := by
  subst e
  subst es
  simp only [G, G4, ← bigSepL_pair]
  refine Tr.each (m := m) (K := K) (c := c) (fun l => iprop(ow c (l.map (fun gd => (((1, nx h hh) : St), gd)) ++ rest))) _ _ gds fun a r _ => ?_
  refine agStep_mid m K c h hh a (r.map (fun gd => (((1, nx h hh) : St), gd)) ++ rest) fun y hy => ?_
  rcases List.mem_cons.mp hy with rfl | hy
  · show 3 * 1 + h.val < 3 * 1 + (h.val + 1); omega
  rcases List.mem_append.mp hy with hy | hy
  · obtain ⟨gd, -, rfl⟩ := List.mem_map.mp hy
    show 3 * 1 + h.val < 3 * 1 + (h.val + 1); omega
  · have := hr y hy; show 3 * 1 + h.val < _; omega

/-- The last stage of the gathering: slots arrive and are copied into the result. -/
theorem loop_ag_last (c : Dev nD) :
    Tr m K c iprop(ow c [] ∗ (G (fun x => at0 c (cRcv x)) (1, 2) ∗ G (fun x => cr c (cRcv x)) (1, 2))
        ∗ G4 (fun x => iprop(∃ v, yAt c x.2.2 x.2.1 x.1 v)) 3 ∗ G4 (fun x => tk c (cOut x)) 3)
      (Ring.each gds (agStep c 2))
      iprop(ow c [] ∗ G (fun x => at1 c (cRcv x)) (1, 2) ∗ G4 (fun x => slotAt c 1 x.2.2 x.2.1 x.1 fullShare.left (val m 1 x.2.2 x.2.1 x.1 c)) 3
        ∗ G4 (fun x => cr c (cOut x)) 3) := by
  simp only [G, G4, ← bigSepL_pair]
  refine Tr.over m K (ow c []) _ _ gds fun a => ?_
  exact agStep_last m K c a [] (fun y hy => absurd hy List.not_mem_nil)

/-- The sending ends of a buffer's hops are waited for: its slots come back. -/
theorem loop_snd (c : Dev nD) (b : Fin 2) (l : List Hx) :
    Tr m K c iprop(ow c l ∗ bigSepL hs3 (fun h => G (fun x => at0 c (cSnd x)) (b, h)) ∗ bigSepL hs3 (fun h => G (fun x => cr c (cSnd x)) (b, h)))
      (Ring.each hs3 fun h => Ring.each gds fun gd => sndWait b gd.2 gd.1 h)
      iprop(ow c l ∗ bigSepL hs3 (fun h => G (fun x => at1 c (cSnd x)) (b, h))
        ∗ bigSepL hs3 (fun h => G4 (fun x => slotAt c b x.2.2 x.2.1 x.1 (sh b) (val m b x.2.2 x.2.1 x.1 c)) (lo h))) := by
  simp only [G, G4, ← bigSepL_pair]
  refine Tr.over m K (ow c l) _ _ hs3 fun h => Tr.over m K (ow c l) _ _ gds fun gd => ?_
  obtain ⟨g, d⟩ := gd
  exact sndWait_step m K c b d g h l

/-- The copies into the result are waited for: the blocks are final. -/
theorem loop_out (c : Dev nD) (l : List Hx) :
    Tr m K c iprop(ow c l ∗ bigSepL [0, 1, 2, 3] (G4 (fun x => at0 c (cOut x))) ∗ bigSepL [0, 1, 2, 3] (G4 (fun x => cr c (cOut x))))
      (Ring.each [0, 1, 2, 3] fun s => Ring.each gds fun gd => outWait c gd.2 gd.1 s)
      iprop(ow c l ∗ bigSepL [0, 1, 2, 3] (G4 (fun x => at1 c (cOut x)))
        ∗ bigSepL [0, 1, 2, 3] (G4 (fun x => yAt c x.2.2 x.2.1 x.1 (val m 1 x.2.2 x.2.1 x.1 c)))
        ∗ bigSepL [0, 1, 2, 3] (G4 (fun x => slotAt c 1 x.2.2 x.2.1 x.1 fullShare.right (val m 1 x.2.2 x.2.1 x.1 c)))) := by
  simp only [G4, ← bigSepL_pair]
  refine Tr.over m K (ow c l) _ _ [0, 1, 2, 3] fun s => Tr.over m K (ow c l) _ _ gds fun gd => ?_
  obtain ⟨g, d⟩ := gd
  exact outWait_step m K c d g s l

end Cert.KernelIdeal.Ring

end
-- ==== Proof.KIRun.lean ====
module
public import proofs.«01_k».proof.Proof.KIBody
@[expose] public section

noncomputable section

/-! The body of one device, from what it starts with to what it leaves. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (K : Dev nD × Cx → ℕ)

/-- The argument, whole. -/
def xAll (c : Dev nD) : sProp 𝕄 := ((c : Thread nD τ).loc main_arg0) ↦[Finset.univ]{fullShare} (m ((c : Thread nD τ).loc main_arg0))
/-- The copy in VMEM at something. -/
def tWhole (c : Dev nD) : sProp 𝕄 := iprop(∃ f, ((c : Thread nD τ).loc cc0_scratch0) ↦[Finset.univ]{fullShare} f)

/-- What the body of a device starts with, apart from the persistent records. -/
def bodyPre (c : Dev nD) : sProp 𝕄 :=
  iprop((∃ W, owes (c : Thread nD τ) (O₀ c) W)
    ∗ (dutyTok ER (kc (src c 0) none) 0 (0 : Fin 2) ∗ dutyTok ER (kc (src c 1) none) 0 (1 : Fin 2))
    ∗ (cred (tallyAt (kc c none) () 2) ∗ atPos ER (kc c none) 0 ∅ 0)
    ∗ (bigSep Finset.univ (fun k => tk (F := F) c (cIn k)) ∗ bigSep Finset.univ (fun x => tk (F := F) c (cOut x))
      ∗ bigSep Finset.univ (fun x => tk (F := F) c (cSnd x)) ∗ bigSep Finset.univ (fun x : Hx => tk (F := F) (dst c x.2.2) (cRcv x)))
    ∗ bigSep Finset.univ (fun x => at0 (F := F) c x) ∗ bigSep Finset.univ (fun x : Hx => cr (F := F) c (cRcv x))
    ∗ xAll m c ∗ yAny c ∗ tWhole c ∗ rsAny c ∗ agAny c)

/-- What it leaves. -/
def bodyPost (c : Dev nD) : sProp 𝕄 :=
  iprop((∃ W, owes (c : Thread nD τ) 0 W) ∗ (bigSep Finset.univ (fun x => at1 (F := F) c x) ∗ atPos ER (kc c none) 1 ∅ 0)
    ∗ xAll m c ∗ yRes m c ∗ tWhole c ∗ rsAny c ∗ agAny c)

/-! ## Regrouping -/

/-- The first of four, and the others. -/
theorem four (Φ : Fin 4 → sProp 𝕄) : bigSepL [0, 1, 2, 3] Φ = iprop(Φ 0 ∗ bigSepL [1, 2, 3] Φ) := rfl
/-- The three of a family over the hops of a stage. -/
theorem three (Φ : Fin 3 → sProp 𝕄) : bigSepL hs3 Φ = iprop(Φ 0 ∗ Φ 1 ∗ Φ 2) := rfl
/-- Both directions. -/
theorem two_eq (Φ : GD → sProp 𝕄) (g : Fin 4) : two Φ g = iprop(Φ (g, 0) ∗ Φ (g, 1)) := rfl

/-- Slots 1, 2 and 3 of both buffers are where hops land. -/
theorem land_in (c : Dev nD) :
    iprop(G4 (fun x => slotAny (F := F) c 0 x.2.2 x.2.1 x.1) 1 ∗ G4 (fun x => slotAny (F := F) c 0 x.2.2 x.2.1 x.1) 2 ∗ G4 (fun x => slotAny (F := F) c 0 x.2.2 x.2.1 x.1) 3
      ∗ G4 (fun x => slotAny (F := F) c 1 x.2.2 x.2.1 x.1) 1 ∗ G4 (fun x => slotAny (F := F) c 1 x.2.2 x.2.1 x.1) 2 ∗ G4 (fun x => slotAny (F := F) c 1 x.2.2 x.2.1 x.1) 3)
      ⊢ iprop(land (F := F) c 0 ∗ land c 1) :=
  ent_eq (Entails.of_eq (hx6 (fun x : Hx => slotAny (F := F) c x.1.1 x.2.2 x.2.1 (up x.1.2))).symm) (land_both fun _ => c).symm

/-- With the landing slots of the next devices, every hop has what it takes. -/
theorem hops_ready (c : Dev nD) :
    iprop(bigSep Finset.univ (fun x => tk (F := F) c (cSnd x)) ∗ bigSep Finset.univ (fun x : Hx => tk (F := F) (dst c x.2.2) (cRcv x))
      ∗ land (F := F) (dst c 0) 0 ∗ land (dst c 1) 1)
      ⊢ iprop(G (hopT (F := F) c) (0, 0) ∗ G (hopT c) (0, 1) ∗ G (hopT c) (0, 2) ∗ G (hopT c) (1, 0) ∗ G (hopT c) (1, 1) ∗ G (hopT c) (1, 2)) := by
  rw [← hx6, land_both (dst c), ← bigSep_sep', ← bigSep_sep']
  exact .rfl

/-- The slots that were sent and the last one are all of them. -/
theorem slots_back (Φ : Fin 4 × GD → sProp 𝕄) :
    iprop(bigSepL hs3 (fun h => G4 Φ (lo h)) ∗ G4 Φ 3) ⊢ bigSep Finset.univ Φ := by
  rw [slot4]
  show iprop((G4 Φ 0 ∗ G4 Φ 1 ∗ G4 Φ 2) ∗ G4 Φ 3) ⊢ _
  iintro ⟨⟨H0, H1, H2⟩, H3⟩
  isplitl [H0]; · iexact H0
  isplitl [H1]; · iexact H1
  isplitl [H2] <;> iassumption

/-- The reduction's slots come back whole. -/
theorem rs_back (c : Dev nD) :
    iprop(bigSepL hs3 (fun h => G4 (fun x => slotAt c 0 x.2.2 x.2.1 x.1 (sh 0) (val m 0 x.2.2 x.2.1 x.1 c)) (lo h))
      ∗ G4 (fun x => slotAt c 0 x.2.2 x.2.1 x.1 fullShare (val m 0 x.2.2 x.2.1 x.1 c)) 3) ⊢ rsAny c :=
  ((slots_back fun x : Fin 4 × GD => slotAt c 0 x.2.2 x.2.1 x.1 fullShare (val m 0 x.2.2 x.2.1 x.1 c)).trans
    (fam_mono fun x => show _ ⊢ slotAny c 0 x.2.2 x.2.1 x.1 from by iintro H; iexists _; iexact H)).trans (rs_join m c)

/-- The gathering's slots come back whole. -/
theorem ag_back (c : Dev nD) :
    iprop((bigSepL hs3 (fun h => G4 (fun x => slotAt c 1 x.2.2 x.2.1 x.1 (sh 1) (val m 1 x.2.2 x.2.1 x.1 c)) (lo h))
      ∗ G4 (fun x => slotAt c 1 x.2.2 x.2.1 x.1 fullShare.left (val m 1 x.2.2 x.2.1 x.1 c)) 3)
      ∗ bigSepL [0, 1, 2, 3] (G4 (fun x => slotAt c 1 x.2.2 x.2.1 x.1 fullShare.right (val m 1 x.2.2 x.2.1 x.1 c)))) ⊢ agAny c := by
  refine (sep_mono_left (slots_back fun x : Fin 4 × GD => slotAt c 1 x.2.2 x.2.1 x.1 fullShare.left (val m 1 x.2.2 x.2.1 x.1 c))).trans ?_
  refine BIBase.Entails.trans ?_ (ag_join m c)
  rw [← slot_split fun x : Fin 4 × GD => slotAt c 1 x.2.2 x.2.1 x.1 fullShare.right (val m 1 x.2.2 x.2.1 x.1 c), ← bigSep_sep']
  exact fam_mono fun x => show _ ⊢ slotAny c 1 x.2.2 x.2.1 x.1 from by
    iintro H; iexists _
    iapply (owns_halves (c : Thread nD τ) (slot 1 x.2.2 x.2.1 x.1) fullShare (val m 1 x.2.2 x.2.1 x.1 c)).2
    iexact H

/-- What a device owes, whatever it waited for. -/
theorem ow_intro (c : Dev nD) (l : List Hx) (W : Waits sig Unit) : (owes (c : Thread nD τ) (owe c l) W : sProp 𝕄) ⊢ ow c l := by
  unfold ow; iintro H; iexists W; iexact H

/-! ## Loops unrolled -/

/-- The stages of the reduction in order. -/
theorem rs_loops (c : Dev nD) (k : P F) :
    Ring.each hs3 (fun h => Ring.each gds (rsStep c h)) k = Ring.each gds (rsStep c 0) (Ring.each gds (rsStep c 1) (Ring.each gds (rsStep c 2) k)) := rfl
/-- The stages of the gathering in order. -/
theorem ag_loops (c : Dev nD) (k : P F) :
    Ring.each hs3 (fun h => Ring.each gds (agStep c h)) k = Ring.each gds (agStep c 0) (Ring.each gds (agStep c 1) (Ring.each gds (agStep c 2) k)) := rfl
/-- The first group, with the barrier's wait, and the others. -/
theorem first_loops (c : Dev nD) (k : P F) :
    Ring.each [0, 1, 2, 3] (first c) k
      = firstA c 0 (.op (.semWait barS.sem ((2 : ℕ) : ℤ)) fun _ => firstB c 0 (Ring.each [1, 2, 3] (first c) k)) := rfl

/-- The hops left after each stage. -/
abbrev R5 : List Hx := stHops (1, 2) ++ []
/-- After stage 3. -/
abbrev R4 : List Hx := stHops (1, 1) ++ R5
/-- After stage 2. -/
abbrev R3 : List Hx := stHops (1, 0) ++ R4
/-- After stage 1. -/
abbrev R2 : List Hx := stHops (0, 2) ++ R3
/-- After stage 0. -/
abbrev R1 : List Hx := stHops (0, 1) ++ R2
/-- The hops in the order in which they are made. -/
theorem allHops_eq : allHops = ((0, 0), (0, 0)) :: ((0, 0), (0, 1)) :: (([1, 2, 3] : List (Fin 4)).flatMap pr ++ R1) := rfl

/-! ## The body -/

set_option maxHeartbeats 4000000 in
/-- The body at device `c`, whatever comes after it: from what it takes to what it leaves. -/
theorem bodyC_spec (c : Dev nD) (Q : PUnit → sProp 𝕄) :
    iprop(recs m K ∗ bodyPre m c) ⊢ iprop((bodyPost m c -∗ |={Set.univ}=> Q ⟨⟩) -∗ WP c (bodyC c) Q) := by
  unfold bodyPre bodyC
  rw [dev1_eq, dev2_eq, first_loops, rs_loops, ag_loops]
  iintro ⟨#HR, ⟨%W, HO⟩, ⟨Hb0, Hb1⟩, ⟨HcB, HaB⟩, ⟨HtI, HtO, HtS, HtR⟩, Hat, HcR, Hx, Hy, Ht, Hrs, Hag⟩ Hk
  -- everything in the pieces the steps use
  unfold xAll tWhole
  ihave Hx := (Entails.of_eq ((x_parts m c).trans (in_split _))) $$ Hx
  icases Hx with ⟨HxO, HxC⟩
  ihave Ht := (ent_eq (t_any c) (in_split _)) $$ Ht
  icases Ht with ⟨HfO, HfC⟩
  ihave HtI := (Entails.of_eq (in_split fun k => tk (F := F) c (cIn k))) $$ HtI
  icases HtI with ⟨HtIO, HtIC⟩
  ihave Hat := (Entails.of_eq (dx_split fun x => at0 (F := F) c x)) $$ Hat
  icases Hat with ⟨HaI, HaO, HaS, HaR⟩
  ihave HaI := (ent_eq (Entails.of_eq (in_split fun k => at0 (F := F) c (cIn k))) (congrArg (fun A => iprop(A ∗ _)) (four _))) $$ HaI
  icases HaI with ⟨⟨aI, HaIO⟩, HaIC⟩
  ihave HaO := (Entails.of_eq (slot_split fun x => at0 (F := F) c (cOut x))) $$ HaO
  ihave HaS := (Entails.of_eq (hx6 fun x => at0 (F := F) c (cSnd x))) $$ HaS
  icases HaS with ⟨aS0, aS1, aS2, aS3, aS4, aS5⟩
  ihave HaR := (Entails.of_eq (hx6 fun x => at0 (F := F) c (cRcv x))) $$ HaR
  icases HaR with ⟨aR0, aR1, aR2, aR3, aR4, aR5⟩
  ihave HcR := (Entails.of_eq (hx6 fun x => cr (F := F) c (cRcv x))) $$ HcR
  icases HcR with ⟨cR0, cR1, cR2, cR3, cR4, cR5⟩
  ihave HtO := (Entails.of_eq (slot4 fun x => tk (F := F) c (cOut x))) $$ HtO
  icases HtO with ⟨tO0, tO1, tO2, tO3⟩
  ihave Hy := (ent_eq (y_split c) (slot4 _)) $$ Hy
  icases Hy with ⟨y0, y1, y2, y3⟩
  ihave Hrs := (ent_eq (rs_split c) (slot4 _)) $$ Hrs
  icases Hrs with ⟨r0, r1, r2, r3⟩
  ihave Hag := (ent_eq (ag_split c) (slot4 _)) $$ Hag
  icases Hag with ⟨g0, g1, g2, g3⟩
  ihave HL := (land_in c) $$ [r1 r2 r3 g1 g2 g3]
  · isplitl [r1]; · iexact r1
    isplitl [r2]; · iexact r2
    isplitl [r3]; · iexact r3
    isplitl [g1]; · iexact g1
    isplitl [g2] <;> iassumption
  icases HL with ⟨HL0, HL1⟩
  ihave r0 := (Entails.of_eq (gd_two fun gd => slotAny (F := F) c 0 gd.2 gd.1 0)) $$ r0
  icases r0 with ⟨r0, Hr0⟩
  ihave r0 := (Entails.of_eq (two_eq (fun gd => slotAny (F := F) c 0 gd.2 gd.1 0) 0)) $$ r0
  icases r0 with ⟨r00, r01⟩
  -- the signals
  unfold O₀
  iapply (signal_step m K c 0 (O₁ c) W _ Q) $$ [HO Hb0 HL0]
  · isplitr; · iexact HR
    isplitl [HO]; · iexact HO
    isplitl [Hb0] <;> iassumption
  iintro HO
  unfold O₁
  iapply (signal_step m K c 1 (owe c allHops) W _ Q) $$ [HO Hb1 HL1]
  · isplitr; · iexact HR
    isplitl [HO]; · iexact HO
    isplitl [Hb1] <;> iassumption
  iintro HO
  ihave HO := (ow_intro c allHops W) $$ HO
  -- the copies of the argument start
  iapply (loop_ownGo m K c _ (ow c allHops) _ Q) $$ [HO HxO HfO HtIO]
  · isplitr; · iexact HR
    isplitl [HO]; · iexact HO
    isplitl [HxO]; · iexact HxO
    isplitl [HfO]; · iexact HfO
    iexact HtIO
  iintro ⟨HO, HcIO⟩
  iapply (loop_chkGo m K c _ (ow c allHops) _ Q) $$ [HO HxC HfC HtIC]
  · isplitr; · iexact HR
    isplitl [HO]; · iexact HO
    isplitl [HxC]; · iexact HxC
    isplitl [HfC]; · iexact HfC
    iexact HtIC
  iintro ⟨HO, HcIC⟩
  ihave HcIO := (Entails.of_eq (four fun g => cr (F := F) c (cIn (ownIx g)))) $$ HcIO
  icases HcIO with ⟨cI, HcIO⟩
  -- the first rows, the barrier, the first hops
  iapply (firstA_step m K c 0 allHops _ Q) $$ [HO aI cI r00 r01]
  · isplitr; · iexact HR
    isplitl [HO]; · iexact HO
    isplitl [aI cI]; · (isplitl [aI] <;> iassumption)
    isplitl [r00]; · iexact r00
    iexact r01
  iintro ⟨HO, ⟨aI, tI, xI⟩, Hs⟩
  iapply (barrier_step m K c allHops _ Q) $$ [HO HaB HcB]
  · isplitr; · iexact HR
    isplitl [HO]; · iexact HO
    isplitl [HaB] <;> iassumption
  iintro ⟨HO, HaB, HL0, HL1⟩
  ihave Hh := (hops_ready c) $$ [HtS HtR HL0 HL1]
  · isplitl [HtS]; · iexact HtS
    isplitl [HtR]; · iexact HtR
    isplitl [HL0] <;> iassumption
  icases Hh with ⟨h0, h1, h2, h3, h4, h5⟩
  ihave h0 := (Entails.of_eq (gd_two fun gd => hopT (F := F) c ((0, 0), gd))) $$ h0
  icases h0 with ⟨h0, Hh0⟩
  ihave h0 := (Entails.of_eq (two_eq (fun gd => hopT (F := F) c ((0, 0), gd)) 0)) $$ h0
  icases h0 with ⟨h00, h01⟩
  rw [allHops_eq]
  iapply (firstB_step m K c 0 _ _ Q) $$ [HO Hs h00 h01]
  · isplitr; · iexact HR
    isplitl [HO]; · iexact HO
    isplitl [Hs]; · iexact Hs
    isplitl [h00] <;> iassumption
  iintro ⟨HO, cS0⟩
  iapply (loop_first m K c R1 _ Q) $$ [HO HaIO HcIO Hr0 Hh0]
  · isplitr; · iexact HR
    isplitl [HO]; · iexact HO
    isplitl [HaIO]; · iexact HaIO
    isplitl [HcIO]; · iexact HcIO
    isplitl [Hr0]; · iexact Hr0
    iexact Hh0
  iintro ⟨HO, HaIO, HpO, HxO, HcS0⟩
  ihave cS0 := (Entails.of_eq (gd_two fun gd => cr (F := F) c (cSnd ((0, 0), gd))).symm) $$ [cS0 HcS0]
  · isplitl [cS0]; · (iapply (Entails.of_eq (two_eq (fun gd => cr (F := F) c (cSnd ((0, 0), gd))) 0).symm); iexact cS0)
    iexact HcS0
  -- the other chunks
  iapply (loop_chkWait m K c _ R1 _ Q) $$ [HO HaIC HcIC]
  · isplitr; · iexact HR
    isplitl [HO]; · iexact HO
    isplitl [HaIC] <;> iassumption
  iintro ⟨HO, HaIC, HpC, HxC⟩
  ihave Ht := (Entails.of_eq ((t_parts m c).trans (in_split _)).symm) $$ [tI HpO HpC]
  · isplitl [tI HpO]
    · iapply (Entails.of_eq (four fun g => tPart m c (ownIx g)).symm)
      isplitl [tI] <;> iassumption
    iexact HpC
  ihave Hx := (Entails.of_eq ((x_parts m c).trans (in_split _)).symm) $$ [xI HxO HxC]
  · isplitl [xI HxO]
    · iapply (Entails.of_eq (four fun g => xPart m c (ownIx g)).symm)
      isplitl [xI] <;> iassumption
    iexact HxC
  -- the reduction
  iapply (loop_rs_mid m K c 0 1 (by decide) (by decide) R2 (by decide) _ Q) $$ [HO Ht aR0 cR0 h1]
  · isplitr; · iexact HR
    isplitl [HO Ht]; · (isplitl [HO] <;> iassumption)
    isplitl [aR0 cR0]; · (isplitl [aR0] <;> iassumption)
    iexact h1
  iintro ⟨⟨HO, Ht⟩, aR0, cS1⟩
  iapply (loop_rs_mid m K c 1 2 (by decide) (by decide) R3 (by decide) _ Q) $$ [HO Ht aR1 cR1 h2]
  · isplitr; · iexact HR
    isplitl [HO Ht]; · (isplitl [HO] <;> iassumption)
    isplitl [aR1 cR1]; · (isplitl [aR1] <;> iassumption)
    iexact h2
  iintro ⟨⟨HO, Ht⟩, aR1, cS2⟩
  iapply (loop_rs_last m K c R4 (by decide) _ Q) $$ [HO Ht aR2 cR2 h3 g0 y0 tO0]
  · isplitr; · iexact HR
    isplitl [HO Ht]; · (isplitl [HO] <;> iassumption)
    isplitl [aR2 cR2]; · (isplitl [aR2] <;> iassumption)
    isplitl [h3]; · iexact h3
    isplitl [g0]; · iexact g0
    isplitl [y0] <;> iassumption
  iintro ⟨⟨HO, Ht⟩, aR2, cS3, s3, cO0⟩
  iapply (loop_snd m K c 0 R4 _ Q) $$ [HO aS0 aS1 aS2 cS0 cS1 cS2]
  · isplitr; · iexact HR
    isplitl [HO]; · iexact HO
    isplitl [aS0 aS1 aS2]
    · iapply (Entails.of_eq (three _).symm)
      isplitl [aS0]; · iexact aS0
      isplitl [aS1] <;> iassumption
    · iapply (Entails.of_eq (three _).symm)
      isplitl [cS0]; · iexact cS0
      isplitl [cS1] <;> iassumption
  iintro ⟨HO, HaS0, Hs0⟩
  ihave Hrs := (rs_back m c) $$ [Hs0 s3]
  · isplitl [Hs0]; · iexact Hs0
    iexact s3
  -- the gathering
  iapply (loop_ag_mid m K c 0 1 1 (by decide) (by decide) (by decide) R5 (by decide) _ Q) $$ [HO aR3 cR3 h4 y1 tO1]
  · isplitr; · iexact HR
    isplitl [HO]; · iexact HO
    isplitl [aR3 cR3]; · (isplitl [aR3] <;> iassumption)
    isplitl [h4]; · iexact h4
    isplitl [y1] <;> iassumption
  iintro ⟨HO, aR3, cS4, cO1⟩
  iapply (loop_ag_mid m K c 1 2 2 (by decide) (by decide) (by decide) [] (by decide) _ Q) $$ [HO aR4 cR4 h5 y2 tO2]
  · isplitr; · iexact HR
    isplitl [HO]; · iexact HO
    isplitl [aR4 cR4]; · (isplitl [aR4] <;> iassumption)
    isplitl [h5]; · iexact h5
    isplitl [y2] <;> iassumption
  iintro ⟨HO, aR4, cS5, cO2⟩
  iapply (loop_ag_last m K c _ Q) $$ [HO aR5 cR5 y3 tO3]
  · isplitr; · iexact HR
    isplitl [HO]; · iexact HO
    isplitl [aR5 cR5]; · (isplitl [aR5] <;> iassumption)
    isplitl [y3] <;> iassumption
  iintro ⟨HO, aR5, g3, cO3⟩
  iapply (loop_snd m K c 1 [] _ Q) $$ [HO aS3 aS4 aS5 cS3 cS4 cS5]
  · isplitr; · iexact HR
    isplitl [HO]; · iexact HO
    isplitl [aS3 aS4 aS5]
    · iapply (Entails.of_eq (three _).symm)
      isplitl [aS3]; · iexact aS3
      isplitl [aS4] <;> iassumption
    · iapply (Entails.of_eq (three _).symm)
      isplitl [cS3]; · iexact cS3
      isplitl [cS4] <;> iassumption
  iintro ⟨HO, HaS1, Hs1⟩
  iapply (loop_out m K c [] _ Q) $$ [HO HaO cO0 cO1 cO2 cO3]
  · isplitr; · iexact HR
    isplitl [HO]; · iexact HO
    isplitl [HaO]; · iexact HaO
    iapply (Entails.of_eq (show iprop(G4 (fun x => cr (F := F) c (cOut x)) 0 ∗ G4 (fun x => cr c (cOut x)) 1 ∗ G4 (fun x => cr c (cOut x)) 2 ∗ G4 (fun x => cr c (cOut x)) 3)
      = bigSepL [0, 1, 2, 3] (G4 fun x => cr (F := F) c (cOut x)) from rfl))
    isplitl [cO0]; · iexact cO0
    isplitl [cO1]; · iexact cO1
    isplitl [cO2] <;> iassumption
  iintro ⟨HO, HaO, Hy, Hg⟩
  ihave Hag := (ag_back m c) $$ [Hs1 g3 Hg]
  · isplitl [Hs1 g3]; · (isplitl [Hs1]; · iexact Hs1
                         iexact g3)
    iexact Hg
  -- the end
  unfold WP; rw [wp_ret]
  iapply Hk
  unfold bodyPost xAll tWhole
  isplitl [HO]; · unfold ow; iexact HO
  isplitl [HaB aI HaIO HaIC HaO HaS0 HaS1 aR0 aR1 aR2 aR3 aR4 aR5]
  · isplitr [HaB]
    · iapply (Entails.of_eq (dx_split fun x => at1 (F := F) c x).symm)
      isplitl [aI HaIO HaIC]
      · iapply (Entails.of_eq (in_split fun k => at1 (F := F) c (cIn k)).symm)
        isplitl [aI HaIO]
        · iapply (Entails.of_eq (four fun g => at1 (F := F) c (cIn (ownIx g))).symm)
          isplitl [aI] <;> iassumption
        iexact HaIC
      isplitl [HaO]; · iapply (Entails.of_eq (slot_split fun x => at1 (F := F) c (cOut x)).symm); iexact HaO
      isplitl [HaS0 HaS1]
      · iapply (Entails.of_eq (hx6 fun x => at1 (F := F) c (cSnd x)).symm)
        ihave HaS0 := (Entails.of_eq (three _)) $$ HaS0
        ihave HaS1 := (Entails.of_eq (three _)) $$ HaS1
        icases HaS0 with ⟨A0, A1, A2⟩
        icases HaS1 with ⟨A3, A4, A5⟩
        isplitl [A0]; · iexact A0
        isplitl [A1]; · iexact A1
        isplitl [A2]; · iexact A2
        isplitl [A3]; · iexact A3
        isplitl [A4] <;> iassumption
      iapply (Entails.of_eq (hx6 fun x => at1 (F := F) c (cRcv x)).symm)
      isplitl [aR0]; · iexact aR0
      isplitl [aR1]; · iexact aR1
      isplitl [aR2]; · iexact aR2
      isplitl [aR3]; · iexact aR3
      isplitl [aR4] <;> iassumption
    iexact HaB
  isplitl [Hx]; · iexact Hx
  isplitl [Hy]
  · iapply (y_join m c)
    iapply (Entails.of_eq (slot_split fun x => yAt c x.2.2 x.2.1 x.1 (val m 1 x.2.2 x.2.1 x.1 c)).symm)
    iexact Hy
  isplitl [Ht]; · unfold tAll; iexists (X m c); iexact Ht
  isplitl [Hrs] <;> iassumption

end Cert.KernelIdeal.Ring

end
-- ==== Proof.KIGhost.lean ====
module
public import proofs.«01_k».proof.Proof.KIRun
@[expose] public section

noncomputable section

/-! What a launch makes: the cells with their invariants, the duty tokens with those who pay the duties, and
the credit that matches what the devices owe. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ)

/-! ## The launch credit -/

/-- A cell of a device determines both. -/
theorem kc_inj {c c' : Dev nD} {x x' : Cx} (h : kc c x = kc c' x') : c = c' ∧ x = x' :=
  ⟨congrArg (fun g : GSem nD τ sig => g.1.1) h, csm_inj (congrArg Prod.snd h)⟩

/-- Two devices have a cell in common only if they are one. -/
theorem kc_eq_iff {c c' : Dev nD} {x : Cx} : kc c x = kc c' x ↔ c = c' := ⟨fun h => (kc_inj h).1, fun h => h ▸ rfl⟩

/-- Hops owe nothing at the barrier; -/
theorem owe_bar (d c : Dev nD) (l : List Hx) : owe d l (kc c none) () = 0 := by
  induction l with
  | nil => rfl
  | cons y l ih =>
    unfold owe tal
    rw [Pi.add_apply, Finsupp.add_apply, ih, tallyAt_ne_cell (fun h => by cases (kc_inj h).2), Finsupp.zero_apply, Nat.add_zero]

/-- at a receiving end they owe its credit for each time that they are listed. -/
theorem owe_rcv (d c : Dev nD) (x : Hx) (l : List Hx) :
    owe d l (kc c (some (cRcv x))) () = if c = dst d x.2.2 then l.count x * amt (cRcv x) else 0 := by
  induction l with
  | nil => rw [List.count_nil, Nat.zero_mul, ite_self]; rfl
  | cons y l ih =>
    unfold owe tal
    rw [Pi.add_apply, Finsupp.add_apply, ih]
    by_cases e : y = x
    · subst e
      rw [List.count_cons_self, tallyAt_apply]
      by_cases h : c = dst d y.2.2
      · rw [if_pos h, if_pos h, if_pos ⟨by rw [h], rfl⟩, Nat.add_mul, Nat.one_mul]
      · rw [if_neg h, if_neg h, if_neg fun h' => h (kc_inj h'.1).1]
    · rw [List.count_cons_of_ne e, tallyAt_ne_cell, Finsupp.zero_apply, Nat.add_zero]
      intro h
      have h2 := (kc_inj h).2
      simp only [Option.some.injEq, Sum.inr.injEq] at h2
      exact e h2.symm

/-- Every hop is made once. -/
theorem all_once : ∀ x : Hx, allHops.count x = 1 := by decide +kernel

/-- What one device owes another's barrier at launch. -/
theorem owed_bar (d c : Dev nD) : O₀ d (kc c none) () = (if c = src d 1 then 1 else 0) + (if c = src d 0 then 1 else 0) := by
  unfold O₀ O₁
  rw [Pi.add_apply, Finsupp.add_apply, Pi.add_apply, Finsupp.add_apply, owe_bar, tallyAt_apply, tallyAt_apply, Nat.zero_add]
  simp only [kc_eq_iff, and_true]

/-- What it owes at a receiving end. -/
theorem owed_rcv (d c : Dev nD) (x : Hx) : O₀ d (kc c (some (cRcv x))) () = if d = src c x.2.2 then amt (cRcv x) else 0 := by
  unfold O₀ O₁
  rw [Pi.add_apply, Finsupp.add_apply, Pi.add_apply, Finsupp.add_apply, owe_rcv, all_once, Nat.one_mul,
    tallyAt_ne_cell (fun h => by cases (kc_inj h).2), tallyAt_ne_cell (fun h => by cases (kc_inj h).2), Finsupp.zero_apply, Nat.add_zero, Nat.add_zero]
  by_cases h : d = src c x.2.2
  · rw [if_pos h, if_pos (by rw [h, dst_src])]
  · rw [if_neg h, if_neg fun h' => h (by rw [h', src_dst])]

/-- All devices together owe a barrier two. -/
theorem sum_bar : ∀ c : Dev nD, (∑ d : Dev nD, ((if c = src d 1 then 1 else 0) + (if c = src d 0 then 1 else 0))) = 2 := by decide

/-- The launch credit on a barrier's cell is two. -/
theorem launch_bar (c : Dev nD) :
    tallyOn (kc c none) (launchCredit (Pipeline.owing O₀) 0 (kc c none)) = (tallyAt (kc c none) () 2 : CellTallies nD τ sig Unit) := by
  unfold tallyAt; refine congrArg _ (Finsupp.ext fun u => ?_); cases u
  rw [Pipeline.launchCredit_owing, Finsupp.single_eq_same, Finset.sum_congr rfl fun d _ => owed_bar d c, sum_bar]

/-- On a receiving end's cell it is the hop's credit. -/
theorem launch_rcv (c : Dev nD) (x : Hx) :
    tallyOn (kc c (some (cRcv x))) (launchCredit (Pipeline.owing O₀) 0 (kc c (some (cRcv x))))
      = (tallyAt (kc c (some (cRcv x))) () (amt (cRcv x)) : CellTallies nD τ sig Unit) := by
  unfold tallyAt; refine congrArg _ (Finsupp.ext fun u => ?_); cases u
  rw [Pipeline.launchCredit_owing, Finsupp.single_eq_same, Finset.sum_congr rfl fun d _ => owed_rcv d c x,
    Finset.sum_ite_eq' Finset.univ (src c x.2.2) fun _ => amt (cRcv x), if_pos (Finset.mem_univ _)]

/-- The receiving ends among the semaphores. -/
def rcvEmb : Hx ↪ SemLoc sig := ⟨fun x => csm (some (cRcv x)), fun x y h => by
  have h2 := csm_inj h
  simp only [Option.some.injEq, Sum.inr.injEq] at h2
  exact h2⟩

/-- A device's launch credit, cell by cell. -/
theorem creds (c : Dev nD) :
    (Pipeline.launchCred O₀ c : sProp 𝕄) ⊢ iprop(cred (tallyAt (kc c none) () 2) ∗ bigSep Finset.univ fun x : Hx => cr (F := F) c (cRcv x)) := by
  unfold Pipeline.launchCred
  have hsub : (Finset.univ : Finset Hx).map rcvEmb ⊆ Finset.univ.erase (csm none) := by
    intro s hs
    obtain ⟨x, -, rfl⟩ := Finset.mem_map.mp hs
    exact Finset.mem_erase.mpr ⟨fun h => absurd (csm_inj (show csm (some (cRcv x)) = csm none from h)) (fun h' => by cases h'), Finset.mem_univ _⟩
  rw [bigSep_univ_at _ (csm none), launch_bar]
  refine sep_mono_right ((bigSep_subset hsub).trans ?_)
  rw [bigSep_map]
  exact fam_mono fun x => Entails.of_eq (congrArg cred (launch_rcv c x))

/-! ## The cells and the tokens at launch -/

/-- A family over the cells: the barrier's, then the DMA cells'. -/
theorem opt_split (Φ : Cx → sProp 𝕄) : bigSep Finset.univ Φ = iprop(Φ none ∗ bigSep Finset.univ fun x : Dx => Φ (some x)) := by
  rw [bigSep_univ_equiv ((Equiv.optionEquivSumPUnit.{0} Dx).symm) Φ, bigSep_univ_sum]
  have h : bigSep Finset.univ (fun b : PUnit.{1} => Φ ((Equiv.optionEquivSumPUnit.{0} Dx).symm (.inr b))) = Φ none := by
    rw [show (Finset.univ : Finset PUnit.{1}) = {⟨⟩} from rfl, bigSep_singleton]; rfl
  rw [h]
  show BI.sep _ _ = BI.sep _ _
  ac_rfl

/-- The cells among the semaphores. -/
def cellEmb : Dev nD × Cx ↪ GSem nD τ sig := ⟨fun y => kc y.1 y.2, fun _ _ h => Prod.ext (kc_inj h).1 (kc_inj h).2⟩
/-- The cells of all devices. -/
def ringCells : Finset (GSem nD τ sig) := Finset.univ.map cellEmb

/-- The duties of one device's cells: two of its barrier's, one of each other. -/
abbrev Tx := Fin 2 ⊕ Dx
/-- The token of a duty. -/
def tokOf (y : Dev nD × Tx) : GSem nD τ sig × ℕ × Fin 2 := match y.2 with
  | .inl d => (kc y.1 none, 0, d)
  | .inr x => (kc y.1 (some x), 0, 0)
/-- Different duties have different tokens. -/
theorem tokOf_inj : Function.Injective tokOf := by
  rintro ⟨c, x⟩ ⟨c', x'⟩ h
  rcases x with d | x <;> rcases x' with d' | x'
  · have h1 := (kc_inj (congrArg Prod.fst h)).1
    have h2 : d = d' := congrArg (fun y : GSem nD τ sig × ℕ × Fin 2 => y.2.2) h
    exact Prod.ext h1 (congrArg Sum.inl h2)
  · have h1 := (kc_inj (congrArg Prod.fst h)).2
    cases h1
  · have h1 := (kc_inj (congrArg Prod.fst h)).2
    cases h1
  · have h1 := kc_inj (congrArg Prod.fst h)
    exact Prod.ext h1.1 (congrArg Sum.inr (Option.some.inj h1.2))
/-- The tokens of all duties. -/
def ringToks : Finset (GSem nD τ sig × ℕ × Fin 2) := Finset.univ.map ⟨tokOf, tokOf_inj⟩

/-- The launch element. -/
def u₀ : UU := (initOf (Pipeline.cells cfgs Cert.KernelIdeal.Gen.cellOf_inj) (Pipeline.launchToks cfgs Cert.KernelIdeal.Gen.cellOf_inj), initOf ringCells ringToks)

/-- The tokens of a device's own cells, as minted. -/
def toks (c : Dev nD) : sProp 𝕄 :=
  iprop((bigSep Finset.univ fun d : Fin 2 => dutyTok ER (kc c none) 0 d) ∗ bigSep Finset.univ fun x : Dx => tk (F := F) c x)

/-- The tokens of the duties that a device pays. -/
def payToks (c : Dev nD) : sProp 𝕄 :=
  iprop((dutyTok ER (kc (src c 0) none) 0 (0 : Fin 2) ∗ dutyTok ER (kc (src c 1) none) 0 (1 : Fin 2))
    ∗ bigSep Finset.univ (fun k => tk (F := F) c (cIn k)) ∗ bigSep Finset.univ (fun x => tk (F := F) c (cOut x))
    ∗ bigSep Finset.univ (fun x => tk (F := F) c (cSnd x)) ∗ bigSep Finset.univ (fun x : Hx => tk (F := F) (dst c x.2.2) (cRcv x)))

/-- What the launch element deals a device. -/
def dealt (c : Dev nD) : sProp 𝕄 :=
  iprop((bigSep Finset.univ fun x : Cx => roundState ER (Rd m) (kc c x) 0)
    ∗ ((bigSep Finset.univ fun x : Cx => atPos ER (kc c x) 0 ∅ 0) ∗ bigSep Finset.univ fun x : Cx => reached ER (kc c x) 0) ∗ toks c)

/-- What stays with a device. -/
def stays (c : Dev nD) : sProp 𝕄 := iprop((bigSep Finset.univ fun x : Cx => atPos ER (kc c x) 0 ∅ 0) ∗ payToks c)

/-- What the devices make of it together. -/
def made (c : Dev nD) : sProp 𝕄 := iprop(∃ K : Dev nD × Cx → ℕ, bigSep Finset.univ (rec m K) ∗ stays c)

/-- The launch element gives every device its deal. -/
theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun x : Cx => Φ (kc c x) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-- The semaphore that outlives the call is the barrier's. -/
theorem unscopedSems0_eq (c : Dev nD) : (unscopedSems0 c : sProp 𝕄) = semVal (kc c none) 0 := by
  unfold unscopedSems0; rw [bigSep_eq_bigSepL_of_eq [csm none] (by decide +kernel) (by decide +kernel)]; rfl

/-- A device's counters at zero, as the launch has them. -/
theorem sems0_eq (c : Dev nD) :
    (bigSep Finset.univ fun x : Cx => semVal (kc c x) 0 : sProp 𝕄)
      = iprop(unscopedSems0 c ∗ Pipeline.ownSems0 (Ix := Unit) (Name := ℕ) (U := UU) (Lvl := ℕ) (Val := Elt F) (τ := τ) dsm c) := by
  rw [opt_split, unscopedSems0_eq]; rfl

/-- The invariants of a device's cells are made. -/
theorem core_alloc (c : Dev nD) :
    iprop(Pipeline.ownSems0 (Ix := Unit) (Name := ℕ) (U := UU) (Lvl := ℕ) (Val := Elt F) (τ := τ) dsm c ∗ unscopedSems0 c ∗ dealt m c)
      ⊢ |={Set.univ}=> iprop((bigSep Finset.univ fun x : Cx => iprop(∃ κ : ℕ, cellInv ER (Rd m) κ (kc c x)))
          ∗ ((bigSep Finset.univ fun x : Cx => atPos ER (kc c x) 0 ∅ 0) ∗ bigSep Finset.univ fun x : Cx => reached ER (kc c x) 0) ∗ toks c) := by
  unfold dealt
  iintro ⟨Hos, Hus, Hst, Hat, Htok⟩
  ihave Hv := (Entails.of_eq (sems0_eq (F := F) c).symm) $$ [Hos Hus]
  · isplitl [Hus] <;> iassumption
  imod (show iprop((bigSep Finset.univ fun x : Cx => semVal (kc c x) 0) ∗ bigSep Finset.univ fun x : Cx => roundState ER (Rd m) (kc c x) 0)
      ⊢ (|={Set.univ}=> bigSep Finset.univ fun x : Cx => iprop(∃ κ : ℕ, cellInv ER (Rd m) κ (kc c x)) : sProp 𝕄) from by
        rw [← bigSep_sep']
        exact (bigSep_mono fun x _ => (Rounds.body_intro ER (Rd m) (kc c x)).trans inv_alloc).trans (bigSep_fupd _ _)) $$ [Hv Hst] with Hinv
  · isplitl [Hv] <;> iassumption
  imodintro
  isplitl [Hinv]; · iexact Hinv
  isplitl [Hat]; · iexact Hat
  iexact Htok

/-- The devices in the order of those that send to them. -/
def srcEquiv (d : Fin 2) : Dev nD ≃ Dev nD := ⟨fun c => src c d, fun c => dst c d, fun c => dst_src c d, fun c => src_dst c d⟩
/-- Receiving ends by the device that sends. -/
def rcvEquiv : Dev nD × Hx ≃ Dev nD × Hx :=
  ⟨fun y => (dst y.1 y.2.2.2, y.2), fun y => (src y.1 y.2.2.2, y.2), fun y => Prod.ext (src_dst _ _) rfl, fun y => Prod.ext (dst_src _ _) rfl⟩

/-- Each token goes to the device that pays the duty. -/
theorem toks_around : (bigSep Finset.univ fun c : Dev nD => (toks c : sProp 𝕄)) ⊢ bigSep Finset.univ fun c : Dev nD => payToks c := by
  have h2 (c : Dev nD) : (bigSep Finset.univ fun d : Fin 2 => (dutyTok ER (kc c none) 0 d : sProp 𝕄))
      = iprop(dutyTok ER (kc c none) 0 (0 : Fin 2) ∗ dutyTok ER (kc c none) 0 (1 : Fin 2)) :=
    bigSep_univ_eq_bigSepL [0, 1] (by decide) (by decide) _
  have hr : (bigSep Finset.univ fun c : Dev nD => bigSep Finset.univ fun x : Hx => tk (F := F) c (cRcv x))
      = bigSep Finset.univ fun c : Dev nD => bigSep Finset.univ fun x : Hx => tk (F := F) (dst c x.2.2) (cRcv x) := by
    rw [← bigSep_univ_prod fun y : Dev nD × Hx => tk (F := F) y.1 (cRcv y.2), bigSep_univ_equiv rcvEquiv, bigSep_univ_prod]; rfl
  have hd (c : Dev nD) := dx_split fun x => tk (F := F) c x
  unfold toks payToks
  simp only [h2, hd, bigSep_sep', hr]
  rw [bigSep_univ_equiv (srcEquiv 0) (fun c : Dev nD => (dutyTok ER (kc c none) 0 (0 : Fin 2) : sProp 𝕄)),
    bigSep_univ_equiv (srcEquiv 1) (fun c : Dev nD => (dutyTok ER (kc c none) 0 (1 : Fin 2) : sProp 𝕄))]
  exact .rfl

/-- What a device gets of it. -/
theorem made_intro (K : Dev nD × Cx → ℕ) (c : Dev nD) : iprop(bigSep Finset.univ (rec m K) ∗ stays c) ⊢ made m c := by
  unfold made; iintro H; iexists K; iexact H

/-- A persistent assertion is there for every member of a family. -/
theorem with_persistent {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

/-- From what each device made to what each device has of all. -/
theorem regroup :
    (bigSep Finset.univ fun c : Dev nD => iprop((bigSep Finset.univ fun x : Cx => iprop(∃ κ : ℕ, cellInv ER (Rd m) κ (kc c x)))
          ∗ ((bigSep Finset.univ fun x : Cx => atPos ER (kc c x) 0 ∅ 0) ∗ bigSep Finset.univ fun x : Cx => reached ER (kc c x) 0) ∗ toks c) : sProp 𝕄)
      ⊢ bigSep Finset.univ (made m) := by
  rw [bigSep_sep', bigSep_sep', bigSep_sep', ← bigSep_univ_prod (fun y : Dev nD × Cx => iprop(∃ κ : ℕ, cellInv ER (Rd m) κ (kc y.1 y.2))),
    ← bigSep_univ_prod (fun y : Dev nD × Cx => (reached ER (kc y.1 y.2) 0 : sProp 𝕄))]
  iintro ⟨HI, ⟨Hat, #HR⟩, Htok⟩
  ihave HK := (BI.bigSep_exists_pi Finset.univ (fun (y : Dev nD × Cx) (κ : ℕ) => (cellInv ER (Rd m) κ (kc y.1 y.2) : sProp 𝕄))) $$ HI
  icases HK with ⟨%K, #HI⟩
  ihave Htk := (toks_around (F := F)) $$ Htok
  iapply (with_persistent (R := bigSep Finset.univ (rec m K)) fun c => made_intro m K c)
  isplitr
  · unfold rec; rw [bigSep_sep']; isplitl; · iexact HI
    iexact HR
  · unfold stays; rw [bigSep_sep']
    isplitl [Hat]; · iexact Hat
    iexact Htk

/-- All devices' semaphores become cells at once. -/
theorem glob : (bigSep Finset.univ fun c => iprop(Pipeline.ownSems0 (Ix := Unit) (Name := ℕ) (U := UU) (Lvl := ℕ) (Val := Elt F) (τ := τ) dsm c ∗ unscopedSems0 c ∗ dealt m c) : sProp 𝕄)
    ⊢ |={Set.univ}=> bigSep Finset.univ (made m) :=
  ((bigSep_mono fun c _ => core_alloc m c).trans (bigSep_fupd _ _)).trans (BI.fupd_mono (regroup m))

end Cert.KernelIdeal.Ring

end
-- ==== Proof.KILaunch.lean ====
module
public import proofs.«01_k».proof.Proof.KIGhost
public import Idealize.ShloMosaic.Lib.Rounds.Family
public import Idealize.ShloMosaic.Lib.Pipeline.CollectiveSegs
@[expose] public section

set_option maxRecDepth 16384

noncomputable section

/-! The run of the program on the four devices. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀

variable {F : FTy → Type} [FloatOps F]

local notation "𝕄" => MT nD τ sig Unit (Elt F) ℕ UU ℕ

variable (m : (ℓ : Loc nD τ sig) → Buf (Elt F) ℓ) (ρ : Dev nD → PrngReg)

/-- What a device has outside the scoped memory before its kernel. -/
def start (c : Dev nD) : sProp 𝕄 :=
  iprop((∃ K, recs m K ∗ stays c) ∗ (cred (tallyAt (kc c none) () 2) ∗ bigSep Finset.univ fun x : Hx => cr (F := F) c (cRcv x))
    ∗ xAll m c ∗ yAny c)

/-- Before the body. -/
def Φ₀ (c : Dev nD) : sProp 𝕄 := iprop(start m c ∗ tWhole c ∗ rsAny c ∗ agAny c)
/-- After the body: every counter is zero again, and the result is final. -/
def Φ₁ (c : Dev nD) : sProp 𝕄 :=
  iprop((bigSep Finset.univ fun x : Cx => semVal (kc c x) 0) ∗ (xAll m c ∗ yRes m c) ∗ tWhole c ∗ rsAny c ∗ agAny c)

/-- The data of the one region: it has no windows, and its invariant goes from before the body to after it. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body obligation -/

/-- There are no windows. -/
theorem no_windows (Φ : Fin cfg0.W → sProp 𝕄) : bigSep Finset.univ Φ = iprop(emp) := by
  rw [show (Finset.univ : Finset (Fin cfg0.W)) = ∅ from rfl, bigSep_empty]; rfl

/-- Cells past their round give their counters back at zero. -/
theorem close_all (K : Dev nD × Cx → ℕ) (c : Dev nD) :
    iprop(recs m K ∗ bigSep Finset.univ (fun x => at1 (F := F) c x) ∗ atPos ER (kc c none) 1 ∅ 0)
      ⊢ |={Set.univ}=> bigSep Finset.univ fun x : Cx => semVal (kc c x) 0 := by
  refine BIBase.Entails.trans ?_ (Rounds.cells_close ER (Rd m) (Finset.univ : Finset Cx) (fun x => kc c x) (fun x => K (c, x))
    (fun _ _ => Set.mem_univ _) (fun _ _ h => h) (fun _ => 1) (fun x _ => duties_later m (kc c x)))
  rw [bigSep_sep']
  iintro ⟨#HR, Ha, Hb⟩
  isplitr
  · iapply ((BI.bigSep_of_persistent (Finset.univ : Finset Cx) (recs m K)).trans (bigSep_mono fun x _ =>
      (recs_at m K c x).trans (show rec m K (c, x) ⊢ cellInv ER (Rd m) (K (c, x)) (kc c x) from by unfold rec; iintro ⟨H, -⟩; iexact H)))
    iexact HR
  · iapply (Entails.of_eq (opt_split fun x => atPos ER (kc c x) 1 ∅ 0).symm)
    isplitl [Hb]; · iexact Hb
    iexact Ha

/-- The body takes a device from before it to after it. -/
theorem body_spec (c : Dev nD) :
    iprop(Φ₀ m c ∗ ∃ W, owes (c : Thread nD τ) (O₀ c) W)
      ⊢ WP c body fun _ => iprop(Φ₁ m c ∗ ∃ W, owes (c : Thread nD τ) 0 W) := by
  unfold body WP
  simp only [wp_deviceId]
  unfold Φ₀ start stays payToks
  iintro ⟨⟨⟨⟨%K, #HR, Hat, HtB, Ht⟩, ⟨HcB, HcR⟩, Hx, Hy⟩, HT, Hrs, Hag⟩, HO⟩
  ihave Hat := (Entails.of_eq (opt_split fun x => atPos ER (kc c x) 0 ∅ 0)) $$ Hat
  icases Hat with ⟨HaB, Hat⟩
  iapply (bodyC_spec m K c _) $$ [Hat HaB HtB Ht HcB HcR Hx Hy HT Hrs Hag HO]
  · isplitr; · iexact HR
    unfold bodyPre
    isplitl [HO]; · iexact HO
    isplitl [HtB]; · iexact HtB
    isplitl [HcB HaB]; · (isplitl [HcB] <;> iassumption)
    isplitl [Ht]; · iexact Ht
    isplitl [Hat]; · iexact Hat
    isplitl [HcR]; · iexact HcR
    isplitl [Hx]; · iexact Hx
    isplitl [Hy]; · iexact Hy
    isplitl [HT]; · iexact HT
    isplitl [Hrs] <;> iassumption
  iintro HP
  unfold bodyPost
  icases HP with ⟨HO, Ha, Hx, Hy, HT, Hrs, Hag⟩
  imod (close_all m K c) $$ [Ha] with Hs
  · isplitr; · iexact HR
    iexact Ha
  imodintro
  unfold Φ₁
  isplitr [HO]
  · isplitl [Hs]; · iexact Hs
    isplitl [Hx Hy]; · (isplitl [Hx] <;> iassumption)
    isplitl [HT]; · iexact HT
    isplitl [Hrs] <;> iassumption
  · iexact HO

/-- The body's row of the table. -/
theorem defs_body (t : Fin cfg0.N) : defs₀ (F := F) .tc cfg0.body (cfg0.bodyArgs t (cfg0.slots t)) = body := by
  chain_rfl

/-- The library's body obligation on each device. -/
theorem body_obligation (c : Dev nD) : BodyObligation (dats (F := F) m 0 c) (defs₀ (F := F)) 𝒱₀ () Set.univ := fun t => by
  rw [Cert.KernelIdeal.Gen.fin_N0 t]
  rw [no_windows, no_windows]
  rw [defs_body]
  unfold Dat.owesAt Pipeline.owesWithin
  rw [show (dats m 0 c).Φ Cert.KernelIdeal.Gen.t0_0.castSucc = Φ₀ m c from rfl, show (dats m 0 c).Φ Cert.KernelIdeal.Gen.t0_0.succ = Φ₁ m c from rfl,
    show (dats m 0 c).owed Cert.KernelIdeal.Gen.t0_0.castSucc = O₀ c from rfl, show (dats m 0 c).owed Cert.KernelIdeal.Gen.t0_0.succ = 0 from rfl]
  have h := body_spec m c
  revert h
  generalize (body : P F) = b
  intro h
  refine BIBase.Entails.trans (Q := iprop(Φ₀ m c ∗ ∃ W, owes (c : Thread nD τ) (O₀ c) W)) ?_ (h.trans (wp_mono _ _ _ fun _ => ?_))
  · iintro ⟨H, ⟨%W, %hW, HO⟩, -⟩
    isplitl [H]; · iexact H
    iexists W; iexact HO
  · iintro ⟨H, ⟨%W, HO⟩⟩
    isplitl [H]; · iexact H
    isplitl [HO]
    · iexists W
      isplitr; · ipureintro; exact fun _ _ => Or.inl trivial
      iexact HO
    · iempintro

/-! ## The launch -/

/-- The DMA cells are the call's own semaphores. -/
theorem ownSemFacts : Pipeline.OwnSemFacts cfg0.spec dsm :=
  ⟨by decide +kernel, dsm_inj, fun _ w => w.elim0⟩

/-- What a device starts with, from the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ made m c)
      ⊢ |={Set.univ}=> iprop(start m c ∗ emp) := by
  rw [Pipeline.unscopedRestP_none, Cert.KernelIdeal.Gen.unscopedRest0_eq]
  unfold made
  iintro ⟨⟨Hx, Hy⟩, Hlev, Hcr, -, ⟨%K, Hr, Hs⟩⟩
  ihave Hc := (creds (F := F) c) $$ Hcr
  imodintro
  unfold start recs xAll yAny
  isplitl
  · isplitl [Hr Hs Hlev]
    · iexists K
      isplitl [Hr Hlev]; · (isplitl [Hr] <;> iassumption)
      iexact Hs
    isplitl [Hc]; · iexact Hc
    isplitl [Hx]; · iexact Hx
    iexists _; iexact Hy
  · iempintro

/-- With the scratch buffers it is what the body needs. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, Cert.KernelIdeal.Gen.scopedRest0_eq]
  unfold Φ₀ tWhole rsAny agAny
  iintro ⟨Hs, -, H0, H1, H2⟩
  isplitl [Hs]; · iexact Hs
  isplitl [H0]; · iexact H0
  isplitl [H1] <;> iassumption

/-- What the body leaves, as the launch takes it back. -/
theorem phi1_exit (c : Dev nD) :
    (dats m 0 c).Φ (Fin.last cfg0.N) ⊢ iprop((unscopedSems0 c ∗ xAll m c ∗ yRes m c) ∗ Pipeline.ownSems0 dsm c ∗ Pipeline.scopedRest cfg0.spec c) := by
  rw [show (dats m 0 c).Φ (Fin.last cfg0.N) = Φ₁ m c from rfl, Cert.KernelIdeal.Gen.scopedRest0_eq]
  unfold Φ₁
  rw [sems0_eq]
  unfold tWhole rsAny agAny
  iintro ⟨⟨Hu, Ho⟩, Hxy, H0, H1, H2⟩
  isplitl [Hu Hxy]
  · isplitl [Hu] <;> iassumption
  isplitl [Ho]; · iexact Ho
  isplitl [H0]; · iexact H0
  isplitl [H1] <;> iassumption

/-- There are no windows' waits. -/
theorem waits (c : Dev nD) : (levAts L lv : sProp 𝕄) ⊢ Pipeline.cellsWaits cfgs (dats m) () 0 c :=
  Pipeline.cellsWaits_intro cfgs (dats m) () 0 c fun w => w.elim0

/-! ## The run -/

/-- What is read at the end on a device: the barrier's counter is zero, the argument unchanged, and every block of
the result final. -/
def Qdev (c : Dev nD) (s : MemSt nD τ sig (Elt F)) : Prop :=
  (∀ sm : SemLoc sig, sm.isScoped .tc = false → s.sem ((c : Thread nD τ), sm) = 0)
  ∧ s.mem ((c : Thread nD τ).loc main_arg0) = m ((c : Thread nD τ).loc main_arg0)
  ∧ ∀ x : Fin 4 × GD, (yBlk c x.2.2 x.2.1 x.1).view.read (Elt F) (s.mem ((c : Thread nD τ).loc main_v1)) = val m 1 x.2.2 x.2.1 x.1 c

/-- What is held at the end is so in memory. -/
theorem read_dev (c : Dev nD) (s' : Phys nD τ sig (Elt F)) :
    iprop((unscopedSems0 c ∗ xAll m c ∗ yRes m c) ∗ emp ∗ SI s') ⊢ |={Set.univ}=> iprop(⌜Qdev m c s'.mem⌝ ∗ SI s' : sProp 𝕄) := by
  unfold xAll yRes
  iintro ⟨⟨Hu, Hx, ⟨%f, %hf, Hy⟩⟩, -, HSI⟩
  icombine HSI Hx gives %hx
  icombine HSI Hy gives %hy
  imod (Pipeline.unscopedSems0_read (X := unscopedSems0 c) (c := c) fupd_intro s') $$ [Hu HSI] with ⟨%hs, HSI⟩
  · isplitl [Hu] <;> iassumption
  imodintro
  isplitr
  · ipureintro
    have e : s'.mem.mem ((c : Thread nD τ).loc main_v1) = f := Buf.eq_of_forall_mem_univ hy
    exact ⟨hs, Buf.eq_of_forall_mem_univ hx, fun x => by rw [e]; exact hf x⟩
  · iexact HSI

/-- The program is the one call. -/
theorem main_eq (c : Dev nD) : main (F := F) c = .op (.customCall (Pipeline.entry 0) ()) fun _ => .ret ⟨⟩ := by chain_rfl

/-- From any memory with zero counters the program ends, with every block of each result final, the arguments
unchanged and every counter zero. -/
theorem run_main : θ_run defs (onTc (τ := τ) (main (F := F))) ⟨m, fun _ => 0, ρ⟩
    (fun r => (∀ c : Dev nD, Qdev m c r.2) ∧ r.2.sem = fun _ => 0) :=
  Pipeline.θ_run_region_owing_glob_pf (fun p => (cfgs p).toPCfg) (fun p => (cfgs p).toPCfg_adm) (dats m) () Cert.KernelIdeal.Gen.cellOf_inj (0 : Fin 1)
    Cert.KernelIdeal.Gen.winFacts0.to₀ ownSemFacts (Pipeline.PreFacts.none _) EP defs₀ 𝒱₀ m ρ main
    (hmain := main_eq)
    (hbody := fun c => (body_obligation m c).loose) (hne := fun w => w.elim0) (harr := Cert.KernelIdeal.Gen.arr_whole0) (hstage := Cert.KernelIdeal.Gen.stage_whole0)
    (hshare := fun _ w => w.elim0) (hdistinct := Cert.KernelIdeal.Gen.winFacts0.arr_inj)
    (O₀ := O₀) (howed₀ := fun _ => rfl) (howedN := fun _ => rfl)
    (L := L) (lv := lv) (hL := L_of_ne) (hwaits := waits m)
    (G := dealt m) (G' := made m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ xAll m c ∗ yRes m c)) (Z := fun _ => iprop(emp))
    (hX := start_intro m ρ) (hin := phi0_intro m) (hout := phi1_exit m)
    (QY := Qdev m) (hY := read_dev m)
    (hQ := fun _ h hs => ⟨fun c => (h c).2.2, sem_eq_zero hs fun c => (h c).2.2.1⟩)

end Cert.KernelIdeal.Ring

end
-- ==== Proof.KIValue.lean ====
module
public import proofs.«01_k».proof.Proof.KILaunch
public import Idealize.ShloMosaic.Lib.IdealHost
public import Idealize.ShloMosaic.Lib.ValueIdx
@[expose] public section

noncomputable section

/-! What the kernel computes over the reals: every device's result is the function at the sum of the four devices'
arguments. -/

namespace Cert.KernelIdeal.Ring

open Idealize.ShloMosaic Idealize.ShloMosaic.TcCoe Idealize.ShloMosaic.ValueIdx

variable (m : (ℓ : Loc nD τ sig) → Buf (Elt Ideal) ℓ)

/-- The function applied to the sums, at a number. -/
def fR (x : EReal) : EReal := Ideal.tanh x * x * x + max x 0 * max x 0 * max x 0

/-- The sum of the devices' arguments at a place. -/
def total (j : S4096x1024.Idx) : EReal := ∑ k : Dev nD, (X m k j : EReal)

/-- Element `i` of the block of chunk `q`, rows `g` and half `d` of the columns. -/
def pos (q : ℕ) (hq : q < 4) (g : Fin 4) (d : Fin 2) (i : S256x512.Idx) : S4096x1024.Idx :=
  ix2 (⟨1024 * q + 256 * g.val + (i 0).val, by have h : (i 0).val < 256 := (i 0).isLt; omega⟩ : Fin 4096)
    (⟨512 * d.val + (i 1).val, by have h : (i 1).val < 512 := (i 1).isLt; omega⟩ : Fin 1024)

/-- There are four chunks. -/
theorem tChunk_lt (c : Dev nD) (d : Fin 2) (s : Fin 4) : tChunk c d s < 4 := by unfold tChunk; split <;> omega
/-- Here too. -/
theorem yChunk_lt (c : Dev nD) (d : Fin 2) (s : Fin 4) : yChunk c d s < 4 := by unfold yChunk; split <;> omega

/-- The place depends on the chunk alone, not on how it is given. -/
theorem pos_congr {q q' : ℕ} (h : q = q') (hq : q < 4) (hq' : q' < 4) (g : Fin 4) (d : Fin 2) (i : S256x512.Idx) :
    pos q hq g d i = pos q' hq' g d i := by subst h; rfl

/-- A rectangle that starts at a block's first element has the block's elements. -/
theorem rect_pos (off : Fin 2 → ℕ) (inb : ∀ a, off a + S256x512.size a ≤ S4096x1024.size a) (q : ℕ) (hq : q < 4)
    (g : Fin 4) (d : Fin 2) (h : off = ![1024 * q + 256 * g.val, 512 * d.val]) (i : S256x512.Idx) :
    (Rect.unit (s := S4096x1024) off S256x512.size inb).idx i = pos q hq g d i := by
  subst h
  funext a
  apply Fin.ext
  match a with
  | 0 => show _ + 1 * (i 0).val = _; rw [Nat.one_mul]; rfl
  | 1 => show _ + 1 * (i 1).val = _; rw [Nat.one_mul]; rfl

/-- The operand of a step. -/
theorem tblk_apply (c : Dev nD) (d : Fin 2) (g s : Fin 4) (i : S256x512.Idx) :
    tblk m c d g s i = X m c (pos (tChunk c d s) (tChunk_lt c d s) g d i) :=
  congrArg (X m c) (rect_pos _ (tOff_inb c d g s) _ (tChunk_lt c d s) g d (tOff_eq c d g s) i)

/-- The devices that send to `c` one after the other, and `c`, are all. -/
theorem ring_univ : ∀ (c : Dev nD) (d : Fin 2),
    (Finset.univ : Finset (Dev nD)) = {src (src (src c d) d) d, src (src c d) d, src c d, c}
      ∧ src (src (src c d) d) d ∉ ({src (src c d) d, src c d, c} : Finset (Dev nD))
      ∧ src (src c d) d ∉ ({src c d, c} : Finset (Dev nD)) ∧ src c d ∉ ({c} : Finset (Dev nD)) := by decide +kernel

/-- The chunks met on the way are the same one. -/
theorem chunks_same : ∀ (c : Dev nD) (d : Fin 2), tChunk (src (src (src c d) d) d) d 0 = tChunk c d 3
    ∧ tChunk (src (src c d) d) d 1 = tChunk c d 3 ∧ tChunk (src c d) d 2 = tChunk c d 3 := by decide +kernel

/-- After the reduction a device has the sums of one chunk. -/
theorem rs_total (d : Fin 2) (g : Fin 4) (c : Dev nD) (i : S256x512.Idx) :
    rsN m d g 3 c i = total m (pos (tChunk c d 3) (tChunk_lt c d 3) g d i) := by
  have h : rsN m d g 3 c i = ((tblk m (src (src (src c d) d) d) d g 0 i + tblk m (src (src c d) d) d g 1 i : EReal)
      + tblk m (src c d) d g 2 i) + tblk m c d g 3 i := rfl
  obtain ⟨e0, e1, e2⟩ := chunks_same c d
  obtain ⟨eu, n0, n1, n2⟩ := ring_univ c d
  rw [h, tblk_apply, tblk_apply, tblk_apply, tblk_apply, pos_congr e0 _ (tChunk_lt c d 3), pos_congr e1 _ (tChunk_lt c d 3),
    pos_congr e2 _ (tChunk_lt c d 3)]
  unfold total
  rw [eu, Finset.sum_insert n0, Finset.sum_insert n1, Finset.sum_insert n2, Finset.sum_singleton, add_assoc, add_assoc]

/-- The function at a block. -/
theorem fBlk_apply (x : FVec Ideal S256x512 .f32) (i : S256x512.Idx) : fBlk x i = fR (x i) := by
  have h : fBlk x i = (Ideal.tanh (x i) * x i * x i + max (x i) (Ideal.ofBits .f32 0x00000000#32) * max (x i) (Ideal.ofBits .f32 0x00000000#32)
      * max (x i) (Ideal.ofBits .f32 0x00000000#32) : EReal) := rfl
  rw [h, Ideal.ofBits_zero_f32]; rfl

/-- The first slot of the gathering. -/
theorem ag_zero (d : Fin 2) (g : Fin 4) (c : Dev nD) (i : S256x512.Idx) :
    agN m d g 0 c i = fR (total m (pos (tChunk c d 3) (tChunk_lt c d 3) g d i)) := by
  have h : agN m d g 0 c i = fR (rsN m d g 3 c i) := fBlk_apply _ i
  rw [h, rs_total]

/-- Slot `n` of the gathering is the first slot of the device `n` places before. -/
theorem ag_iter (d : Fin 2) (g : Fin 4) (n : ℕ) : ∀ c : Dev nD, agN m d g n c = agN m d g 0 ((fun c => src c d)^[n] c) := by
  induction n with
  | zero => intro c; rfl
  | succ n ih => intro c; rw [Function.iterate_succ_apply]; exact ih (src c d)

/-- The chunk that a device reduced is the one of the slot in which it arrives. -/
theorem chunk_iter : ∀ (c : Dev nD) (d : Fin 2) (s : Fin 4), tChunk ((fun c => src c d)^[s.val] c) d 3 = yChunk c d s := by
  decide +kernel

/-- What is copied into a block of the result. -/
theorem val_apply (d : Fin 2) (g s : Fin 4) (c : Dev nD) (i : S256x512.Idx) :
    val m 1 d g s c i = fR (total m (pos (yChunk c d s) (yChunk_lt c d s) g d i)) := by
  have h : val m 1 d g s c i = agN m d g s.val c i := rfl
  rw [h, ag_iter, ag_zero, pos_congr (chunk_iter c d s)]

/-- A device's result after the run: the function at the sums. -/
theorem result_eq (c : Dev nD) (s : MemSt nD τ sig (Elt Ideal)) (h : Qdev m c s) (j : S4096x1024.Idx) :
    s.mem ((c : Thread nD τ).loc main_v1) j = fR (total m j) := by
  have hj : j ∈ Finset.univ.biUnion (ySet c) := by rw [y_cover]; exact Finset.mem_univ j
  obtain ⟨x, -, hx⟩ := Finset.mem_biUnion.mp hj
  obtain ⟨i, rfl⟩ := LoadRect.exists_idx_of_mem _ hx
  have e := congrFun (h.2.2 x) i
  rw [val_apply] at e
  rw [rect_pos _ (yOff_inb c x.2.2 x.2.1 x.1) _ (yChunk_lt c x.2.2 x.1) x.2.1 x.2.2 (yOff_eq c x.2.2 x.2.1 x.1) i, ← e]
  show _ = s.mem ((c : Thread nD τ).loc main_v1) ((yRect c x.2.2 x.2.1 x.1).idx i)
  rw [rect_pos _ (yOff_inb c x.2.2 x.2.1 x.1) _ (yChunk_lt c x.2.2 x.1) x.2.1 x.2.2 (yOff_eq c x.2.2 x.2.1 x.1) i]

end Cert.KernelIdeal.Ring
-- ==== Proof.Value.lean ====
module
public import proofs.«01_k».proof.Defs
public import proofs.«01_k».proof.Proof.KIValue
public import proofs.«01_k».proof.Proof.Gen.ReferenceIdeal.Run
public import Idealize.ShloMosaic.Lib.Layout
public import Idealize.ShloMosaic.Lib.Pointwise
@[expose] public section

noncomputable section

/-! The kernel over the reals and the reference over the reals give the same result. -/

namespace Cert.Proof

open Idealize.ShloMosaic Idealize.ShloMosaic.TcCoe Idealize.ShloMosaic.ValueIdx Idealize.SL.Sem
open Cert.ReferenceIdeal Cert.ReferenceIdeal.Gen

/-- The reference's sums at a place: the array's four blocks of rows, added. -/
theorem ref_sum (x : FVec Ideal S16384x1024 .f32) (j : S4096x1024.Idx) :
    Host.reduceAdd (shapeCast S4x4096x1024 x shapeCasts_S16384x1024_S4x4096x1024) (constant (F := Ideal) S_ .f32 0x00000000#32)
        reducesTo_S4x4096x1024_S4096x1024_d0 h_S_ j
      = ∑ k : Fin 4, (Layout.block ⟨2, ![4096, 1024]⟩ ⟨2, ![16384, 1024]⟩ 0 4 k x (by decide) j : EReal) := by
  rw [hostReduceAdd_apply, Ideal.hostReduceAdd_r3_a0]
  have h0 : (constant (F := Ideal) S_ .f32 0x00000000#32) (Shape.Idx.first h_S_) = (0 : EReal) := Ideal.ofBits_zero_f32
  rw [h0, zero_add]
  refine Finset.sum_congr rfl fun k _ => ?_
  pointwise
  refine congrArg x ?_
  funext a
  match a with
  | 0 => rfl
  | 1 => rfl

/-- The reference's operations after the sums. -/
def refFn (u : FVec Ideal S4096x1024 .f32) : FVec Ideal S4096x1024 .bf16 :=
  let r : FVec Ideal S4096x1024 .f32 := maximumf u (broadcastInDim S4096x1024 ![] bcast_S_S4096x1024 (constant S_ .f32 0x00000000#32))
  truncf .bf16 (addf (mulf (mulf (Host.tanh u) u) u) (mulf (mulf r r) r)) bitsLt_bf16_f32

/-- They are the kernel's function at each element. -/
theorem refFn_apply (u : FVec Ideal S4096x1024 .f32) (j : S4096x1024.Idx) : refFn u j = Cert.KernelIdeal.Ring.fR (u j) := by
  have h : refFn u j = (Ideal.tanh (u j) * u j * u j + max (u j) (Ideal.ofBits .f32 0x00000000#32)
      * max (u j) (Ideal.ofBits .f32 0x00000000#32) * max (u j) (Ideal.ofBits .f32 0x00000000#32) : EReal) := rfl
  rw [h, Ideal.ofBits_zero_f32]; rfl

/-- The reference's sums. -/
def refSums (x : FVec Ideal S16384x1024 .f32) : FVec Ideal S4096x1024 .f32 :=
  Host.reduceAdd (shapeCast S4x4096x1024 x shapeCasts_S16384x1024_S4x4096x1024) (constant (F := Ideal) S_ .f32 0x00000000#32)
    reducesTo_S4x4096x1024_S4096x1024_d0 h_S_

/-- The kernel and the reference agree over the reals. -/
theorem values : Cert.algebraic_KernelIdeal_ReferenceIdeal := by
  intro m g m' g' _ hm
  refine ⟨refFn (refSums (m' (((0 : Dev nD).tc : Thread nD τ).loc main_arg0))), ?_, ?_⟩
  · refine (θ_run _ _ _).mono (fun r h c => ⟨?_, (h.1 c).2.1⟩) (Cert.KernelIdeal.Ring.run_main m g)
    funext j
    refine (Cert.KernelIdeal.Ring.result_eq m c r.2 (h.1 c) j).trans (Eq.trans ?_ (refFn_apply _ j).symm)
    refine congrArg Cert.KernelIdeal.Ring.fR (Eq.trans ?_ (ref_sum _ j).symm)
    exact Finset.sum_congr rfl fun k _ => congrFun (hm k) j
  · exact (θ_run _ _ _).mono (fun r h => ⟨(h 0).1, (h 0).2⟩) (Cert.ReferenceIdeal.Value.run m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KLaunch
public import proofs.«01_k».proof.Proof.KILaunch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel at the hardware's floats runs, leaves its arguments unchanged and every counter at zero. -/
theorem frame_kernel : Cert.quiescent_Kernel := fun m g _ =>
  (θ_run _ _ _).mono (fun _ h => ⟨fun c => (h.1 c).2.1, h.2⟩) (Cert.Kernel.Ring.run_main m g)

/-- The kernel over the reals does too. -/
theorem frame_kernelIdeal : Cert.quiescent_KernelIdeal := fun m g _ =>
  (θ_run _ _ _).mono (fun _ h => ⟨fun c => (h.1 c).2.1, h.2⟩) (Cert.KernelIdeal.Ring.run_main m g)

/-- The reference over the reals does too. -/
theorem frame_referenceIdeal : Cert.quiescent_ReferenceIdeal := fun m g _ =>
  (θ_run _ _ _).mono (fun r h => ⟨fun c => (h c).2, sem_eq_zero_of_no_sems rfl r.2⟩) (Cert.ReferenceIdeal.Value.run m g)

/-- All the claims. -/
theorem claim : Cert.Claim := ⟨Cert.Kernel.Gen.facts, Cert.KernelIdeal.Gen.facts, Cert.ReferenceIdeal.Gen.facts,
  frame_kernel, frame_kernelIdeal, frame_referenceIdeal, trivial, values⟩

end Cert.Proof

end
